-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v257) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x2048x1024 : Shape := ⟨3, ![1, 2048, 1024]⟩
abbrev S1x2048 : Shape := ⟨2, ![1, 2048]⟩
abbrev S1024x1024 : Shape := ⟨2, ![1024, 1024]⟩
abbrev S1024 : Shape := ⟨1, ![1024]⟩
abbrev S9x256 : Shape := ⟨2, ![9, 256]⟩
abbrev S1x256 : Shape := ⟨2, ![1, 256]⟩
abbrev S256 : Shape := ⟨1, ![256]⟩
abbrev S1536x1024 : Shape := ⟨2, ![1536, 1024]⟩
abbrev S1024x128 : Shape := ⟨2, ![1024, 128]⟩
abbrev S128 : Shape := ⟨1, ![128]⟩
abbrev S16x8 : Shape := ⟨2, ![16, 8]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1x2048 : S_.BroadcastsInDim S1x2048 (![] : Fin 0 → Fin S1x2048.rank)
  reducesTo_S1x2048_S_d0_1 : S1x2048.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S9x256 : S_.BroadcastsInDim S9x256 (![] : Fin 0 → Fin S9x256.rank)
  reducesTo_S9x256_S_d0_1 : S9x256.ReducesTo [0, 1] S_
  bcast_S_S1x256 : S_.BroadcastsInDim S1x256 (![] : Fin 0 → Fin S1x256.rank)
  reducesTo_S1x256_S_d0_1 : S1x256.ReducesTo [0, 1] S_
  bcast_S_S256 : S_.BroadcastsInDim S256 (![] : Fin 0 → Fin S256.rank)
  reducesTo_S256_S_d0 : S256.ReducesTo [0] S_
  bcast_S_S1536x1024 : S_.BroadcastsInDim S1536x1024 (![] : Fin 0 → Fin S1536x1024.rank)
  reducesTo_S1536x1024_S_d0_1 : S1536x1024.ReducesTo [0, 1] S_
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_
  bcast_S_S16x8 : S_.BroadcastsInDim S16x8 (![] : Fin 0 → Fin S16x8.rank)
  reducesTo_S16x8_S_d0_1 : S16x8.ReducesTo [0, 1] S_

variable [Facts]

def fn_part4 {F : FTy → Type} [FloatOps F] (main_arg20 : FVec F S16x8 .f32) (main_arg21 : FVec F S16x8 .f32) (main_v63 : IVec S_ 1) (main_v67 : IVec S_ 1) : IVec S_ 1 :=
  let main_v68 : IVec S_ 1 := andi main_v63 main_v67
  let main_v69 : FVec F S16x8 .f32 := Host.absf main_arg20
  let main_cst_26 : FVec F S_ .f32 := constant S_ .f32 0x7F800000#32
  let main_v70 : FVec F S16x8 .f32 := broadcastInDim S16x8 ![] bcast_S_S16x8 main_cst_26
  let main_v71 : IVec S16x8 1 := cmpf .olt main_v69 main_v70
  let main_c_27 : IVec S_ 1 := constantI S_ 1 1#1
  let main_v72 : IVec S_ 1 := (fun x v => Host.reduce IntOp.andi x v reducesTo_S16x8_S_d0_1 h_S_) main_v71 main_c_27
  let main_v73 : IVec S_ 1 := andi main_v68 main_v72
  let main_v74 : FVec F S16x8 .f32 := Host.absf main_arg21
  let main_cst_28 : FVec F S_ .f32 := constant S_ .f32 0x7F800000#32
  let main_v75 : FVec F S16x8 .f32 := broadcastInDim S16x8 ![] bcast_S_S16x8 main_cst_28
  let main_v76 : IVec S16x8 1 := cmpf .olt main_v74 main_v75
  let main_c_29 : IVec S_ 1 := constantI S_ 1 1#1
  let main_v77 : IVec S_ 1 := (fun x v => Host.reduce IntOp.andi x v reducesTo_S16x8_S_d0_1 h_S_) main_v76 main_c_29
  let main_v78 : IVec S_ 1 := andi main_v73 main_v77
  main_v78

def fn_part3 {F : FTy → Type} [FloatOps F] (main_arg15 : FVec F S1024x128 .f32) (main_arg16 : FVec F S128 .f32) (main_arg19 : FVec F S16x8 .f32) (main_arg20 : FVec F S16x8 .f32) (main_arg21 : FVec F S16x8 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x128 .f32 := Host.absf main_arg15
  let main_cst_20 : FVec F S_ .f32 := constant S_ .f32 0x7F800000#32
  let main_v55 : FVec F S1024x128 .f32 := broadcastInDim S1024x128 ![] bcast_S_S1024x128 main_cst_20
  let main_v56 : IVec S1024x128 1 := cmpf .olt main_v54 main_v55
  let main_c_21 : IVec S_ 1 := constantI S_ 1 1#1
  let main_v57 : IVec S_ 1 := (fun x v => Host.reduce IntOp.andi x v reducesTo_S1024x128_S_d0_1 h_S_) main_v56 main_c_21
  let main_v58 : IVec S_ 1 := andi main_v53 main_v57
  let main_v59 : FVec F S128 .f32 := Host.absf main_arg16
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S16x8 .f32 := Host.absf main_arg19
  let main_cst_24 : FVec F S_ .f32 := constant S_ .f32 0x7F800000#32
  let main_v65 : FVec F S16x8 .f32 := broadcastInDim S16x8 ![] bcast_S_S16x8 main_cst_24
  let main_v66 : IVec S16x8 1 := cmpf .olt main_v64 main_v65
  let main_c_25 : IVec S_ 1 := constantI S_ 1 1#1
  let main_v67 : IVec S_ 1 := (fun x v => Host.reduce IntOp.andi x v reducesTo_S16x8_S_d0_1 h_S_) main_v66 main_c_25
  fn_part4 (F := F) main_arg20 main_arg21 main_v63 main_v67

def fn_part2 {F : FTy → Type} [FloatOps F] (main_arg9 : FVec F S1x256 .f32) (main_arg10 : FVec F S256 .f32) (main_arg11 : FVec F S1536x1024 .f32) (main_arg12 : FVec F S1024 .f32) (main_arg15 : FVec F S1024x128 .f32) (main_arg16 : FVec F S128 .f32) (main_arg19 : FVec F S16x8 .f32) (main_arg20 : FVec F S16x8 .f32) (main_arg21 : FVec F S16x8 .f32) (main_v33 : IVec S_ 1) : IVec S_ 1 :=
  let main_v34 : FVec F S1x256 .f32 := Host.absf main_arg9
  let main_cst_12 : FVec F S_ .f32 := constant S_ .f32 0x7F800000#32
  let main_v35 : FVec F S1x256 .f32 := broadcastInDim S1x256 ![] bcast_S_S1x256 main_cst_12
  let main_v36 : IVec S1x256 1 := cmpf .olt main_v34 main_v35
  let main_c_13 : IVec S_ 1 := constantI S_ 1 1#1
  let main_v37 : IVec S_ 1 := (fun x v => Host.reduce IntOp.andi x v reducesTo_S1x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S1536x1024 .f32 := Host.absf main_arg11
  let main_cst_16 : FVec F S_ .f32 := constant S_ .f32 0x7F800000#32
  let main_v45 : FVec F S1536x1024 .f32 := broadcastInDim S1536x1024 ![] bcast_S_S1536x1024 main_cst_16
  let main_v46 : IVec S1536x1024 1 := cmpf .olt main_v44 main_v45
  let main_c_17 : IVec S_ 1 := constantI S_ 1 1#1
  let main_v47 : IVec S_ 1 := (fun x v => Host.reduce IntOp.andi x v reducesTo_S1536x1024_S_d0_1 h_S_) main_v46 main_c_17
  let main_v48 : IVec S_ 1 := andi main_v43 main_v47
  let main_v49 : FVec F S1024 .f32 := Host.absf main_arg12
  let main_cst_18 : FVec F S_ .f32 := constant S_ .f32 0x7F800000#32
  let main_v50 : FVec F S1024 .f32 := broadcastInDim S1024 ![] bcast_S_S1024 main_cst_18
  fn_part3 (F := F) main_arg15 main_arg16 main_arg19 main_arg20 main_arg21 main_v48 main_v49 main_v50

def fn_part1 {F : FTy → Type} [FloatOps F] (main_arg4 : FVec F S1024x1024 .f32) (main_arg5 : FVec F S1024 .f32) (main_arg8 : FVec F S9x256 .f32) (main_arg9 : FVec F S1x256 .f32) (main_arg10 : FVec F S256 .f32) (main_arg11 : FVec F S1536x1024 .f32) (main_arg12 : FVec F S1024 .f32) (main_arg15 : FVec F S1024x128 .f32) (main_arg16 : FVec F S128 .f32) (main_arg19 : FVec F S16x8 .f32) (main_arg20 : FVec F S16x8 .f32) (main_arg21 : FVec F S16x8 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S9x256 .f32 := Host.absf main_arg8
  let main_cst_10 : FVec F S_ .f32 := constant S_ .f32 0x7F800000#32
  let main_v30 : FVec F S9x256 .f32 := broadcastInDim S9x256 ![] bcast_S_S9x256 main_cst_10
  let main_v31 : IVec S9x256 1 := cmpf .olt main_v29 main_v30
  let main_c_11 : IVec S_ 1 := constantI S_ 1 1#1
  let main_v32 : IVec S_ 1 := (fun x v => Host.reduce IntOp.andi x v reducesTo_S9x256_S_d0_1 h_S_) main_v31 main_c_11
  let main_v33 : IVec S_ 1 := andi main_v28 main_v32
  fn_part2 (F := F) main_arg9 main_arg10 main_arg11 main_arg12 main_arg15 main_arg16 main_arg19 main_arg20 main_arg21 main_v33

def fn {F : FTy → Type} [FloatOps F] (main_arg0 : FVec F S1x2048x1024 .f32) (main_arg1 : FVec F S1x2048 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) (main_arg8 : FVec F S9x256 .f32) (main_arg9 : FVec F S1x256 .f32) (main_arg10 : FVec F S256 .f32) (main_arg11 : FVec F S1536x1024 .f32) (main_arg12 : FVec F S1024 .f32) (main_arg13 : FVec F S1024x128 .f32) (main_arg14 : FVec F S128 .f32) (main_arg15 : FVec F S1024x128 .f32) (main_arg16 : FVec F S128 .f32) (main_arg17 : FVec F S1024x1024 .f32) (main_arg18 : FVec F S1024 .f32) (main_arg19 : FVec F S16x8 .f32) (main_arg20 : FVec F S16x8 .f32) (main_arg21 : FVec F S16x8 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg8 main_arg9 main_arg10 main_arg11 main_arg12 main_arg15 main_arg16 main_arg19 main_arg20 main_arg21 main_v13 main_v16
-- ==== Kernel.lean ====
abbrev S1x2048x1024 : Shape := ⟨3, ![1, 2048, 1024]⟩
abbrev S1x2048 : Shape := ⟨2, ![1, 2048]⟩
abbrev S1024x1024 : Shape := ⟨2, ![1024, 1024]⟩
abbrev S1024 : Shape := ⟨1, ![1024]⟩
abbrev S9x256 : Shape := ⟨2, ![9, 256]⟩
abbrev S1x256 : Shape := ⟨2, ![1, 256]⟩
abbrev S256 : Shape := ⟨1, ![256]⟩
abbrev S1536x1024 : Shape := ⟨2, ![1536, 1024]⟩
abbrev S1024x128 : Shape := ⟨2, ![1024, 128]⟩
abbrev S128 : Shape := ⟨1, ![128]⟩
abbrev S16x8 : Shape := ⟨2, ![16, 8]⟩
abbrev S2048x1024 : Shape := ⟨2, ![2048, 1024]⟩
abbrev S2048 : Shape := ⟨1, ![2048]⟩
abbrev S2048x1 : Shape := ⟨2, ![2048, 1]⟩
abbrev S256x1024 : Shape := ⟨2, ![256, 1024]⟩
abbrev S1x1024 : Shape := ⟨2, ![1, 1024]⟩
abbrev S1x1x1024 : Shape := ⟨3, ![1, 1, 1024]⟩
abbrev S9x1024 : Shape := ⟨2, ![9, 1024]⟩
abbrev S8x1024 : Shape := ⟨2, ![8, 1024]⟩
abbrev S8x1x1024 : Shape := ⟨3, ![8, 1, 1024]⟩
abbrev S1024x4096 : Shape := ⟨2, ![1024, 4096]⟩
abbrev S4x1024 : Shape := ⟨2, ![4, 1024]⟩
abbrev S4x1x1024 : Shape := ⟨3, ![4, 1, 1024]⟩
abbrev S2048x4096 : Shape := ⟨2, ![2048, 4096]⟩
abbrev S1x128 : Shape := ⟨2, ![1, 128]⟩
abbrev S2x128 : Shape := ⟨2, ![2, 128]⟩
abbrev S2x1x128 : Shape := ⟨3, ![2, 1, 128]⟩
abbrev S2048x128 : Shape := ⟨2, ![2048, 128]⟩
abbrev S256x1 : Shape := ⟨2, ![256, 1]⟩
abbrev S256x128 : Shape := ⟨2, ![256, 128]⟩
abbrev S1x1x128 : Shape := ⟨3, ![1, 1, 128]⟩
abbrev S2048x16x8 : Shape := ⟨3, ![2048, 16, 8]⟩
abbrev S16x2048x8 : Shape := ⟨3, ![16, 2048, 8]⟩
abbrev S_ : Shape := ⟨0, ![]⟩
abbrev S512 : Shape := ⟨1, ![512]⟩
abbrev S1x512 : Shape := ⟨2, ![1, 512]⟩
abbrev S8x512 : Shape := ⟨2, ![8, 512]⟩
abbrev S8x1x512 : Shape := ⟨3, ![8, 1, 512]⟩
abbrev S7 : Shape := ⟨1, ![7]⟩
abbrev S1 : Shape := ⟨1, ![1]⟩
abbrev S8 : Shape := ⟨1, ![8]⟩
abbrev S1x8 : Shape := ⟨2, ![1, 8]⟩
abbrev S16x1x8 : Shape := ⟨3, ![16, 1, 8]⟩
abbrev S2x256x8 : Shape := ⟨3, ![2, 256, 8]⟩
abbrev S1x1x512 : Shape := ⟨3, ![1, 1, 512]⟩
abbrev S2x1x8 : Shape := ⟨3, ![2, 1, 8]⟩
abbrev S512x128 : Shape := ⟨2, ![512, 128]⟩
abbrev S1x256x8 : Shape := ⟨3, ![1, 256, 8]⟩
abbrev S256x8 : Shape := ⟨2, ![256, 8]⟩
abbrev S256x512 : Shape := ⟨2, ![256, 512]⟩
abbrev S1x1x8 : Shape := ⟨3, ![1, 1, 8]⟩

abbrev nBuf : Space → Nat
  | .hbm => 139
  | .vmem => 48
  | .smem => 0
  | _ => 0

abbrev hbmTy0_0 (i : Nat) : BufTy := match i % 128 with
  | 0 => ⟨S1x2048x1024, .f32⟩
  | 1 => ⟨S1x2048, .f32⟩
  | 2 => ⟨S1024x1024, .f32⟩
  | 3 => ⟨S1024, .f32⟩
  | 4 => ⟨S1024x1024, .f32⟩
  | 5 => ⟨S1024, .f32⟩
  | 6 => ⟨S1024x1024, .f32⟩
  | 7 => ⟨S1024, .f32⟩
  | 8 => ⟨S9x256, .f32⟩
  | 9 => ⟨S1x256, .f32⟩
  | 10 => ⟨S256, .f32⟩
  | 11 => ⟨S1536x1024, .f32⟩
  | 12 => ⟨S1024, .f32⟩
  | 13 => ⟨S1024x128, .f32⟩
  | 14 => ⟨S128, .f32⟩
  | 15 => ⟨S1024x128, .f32⟩
  | 16 => ⟨S128, .f32⟩
  | 17 => ⟨S1024x1024, .f32⟩
  | 18 => ⟨S1024, .f32⟩
  | 19 => ⟨S16x8, .f32⟩
  | 20 => ⟨S16x8, .f32⟩
  | 21 => ⟨S16x8, .f32⟩
  | 22 => ⟨S2048x1024, .f32⟩
  | 23 => ⟨S2048, .f32⟩
  | 24 => ⟨S2048x1, .f32⟩
  | 25 => ⟨S1024x1024, .f32⟩
  | 26 => ⟨S256x1024, .f32⟩
  | 27 => ⟨S256x1024, .f32⟩
  | 28 => ⟨S1x1024, .f32⟩
  | 29 => ⟨S1x1x1024, .f32⟩
  | 30 => ⟨S9x1024, .f32⟩
  | 31 => ⟨S1024, .f32⟩
  | 32 => ⟨S1024, .f32⟩
  | 33 => ⟨S1x1024, .f32⟩
  | 34 => ⟨S1024, .f32⟩
  | 35 => ⟨S1024, .f32⟩
  | 36 => ⟨S8x1024, .f32⟩
  | 37 => ⟨S8x1024, .f32⟩
  | 38 => ⟨S8x1024, .f32⟩
  | 39 => ⟨S8x1x1024, .f32⟩
  | 40 => ⟨S1024x4096, .f32⟩
  | 41 => ⟨S1x1024, .f32⟩
  | 42 => ⟨S1x1024, .f32⟩
  | 43 => ⟨S1x1024, .f32⟩
  | 44 => ⟨S1x1024, .f32⟩
  | 45 => ⟨S4x1024, .f32⟩
  | 46 => ⟨S4x1x1024, .f32⟩
  | 47 => ⟨S2048x4096, .f32⟩
  | 48 => ⟨S1x128, .f32⟩
  | 49 => ⟨S1x128, .f32⟩
  | 50 => ⟨S2x128, .f32⟩
  | 51 => ⟨S2x1x128, .f32⟩
  | 52 => ⟨S2048x128, .f32⟩
  | 53 => ⟨S2048x128, .f32⟩
  | 54 => ⟨S2048x16x8, .f32⟩
  | 55 => ⟨S16x2048x8, .f32⟩
  | 56 => ⟨S2048x16x8, .f32⟩
  | 57 => ⟨S16x2048x8, .f32⟩
  | 58 => ⟨S2048, .f32⟩
  | 59 => ⟨S_, .f32⟩
  | 60 => ⟨S2048, .f32⟩
  | 61 => ⟨S2048, .f32⟩
  | 62 => ⟨S_, .f32⟩
  | 63 => ⟨S_, .f32⟩
  | 64 => ⟨S2048, .f32⟩
  | 65 => ⟨S2048x1, .f32⟩
  | 66 => ⟨S512, .f32⟩
  | 67 => ⟨S512, .f32⟩
  | 68 => ⟨S512, .f32⟩
  | 69 => ⟨S512, .f32⟩
  | 70 => ⟨S512, .f32⟩
  | 71 => ⟨S512, .f32⟩
  | 72 => ⟨S512, .f32⟩
  | 73 => ⟨S512, .f32⟩
  | 74 => ⟨S1x512, .f32⟩
  | 75 => ⟨S1x512, .f32⟩
  | 76 => ⟨S1x512, .f32⟩
  | 77 => ⟨S1x512, .f32⟩
  | 78 => ⟨S1x512, .f32⟩
  | 79 => ⟨S1x512, .f32⟩
  | 80 => ⟨S1x512, .f32⟩
  | 81 => ⟨S1x512, .f32⟩
  | 82 => ⟨S8x512, .f32⟩
  | 83 => ⟨S8x1x512, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S7, .f32⟩
  | 92 => ⟨S_, .f32⟩
  | 93 => ⟨S7, .f32⟩
  | 94 => ⟨S7, .f32⟩
  | 95 => ⟨S1, .f32⟩
  | 96 => ⟨S_, .f32⟩
  | 97 => ⟨S7, .f32⟩
  | 98 => ⟨S7, .f32⟩
  | 99 => ⟨S7, .f32⟩
  | 100 => ⟨S7, .f32⟩
  | 101 => ⟨S1, .f32⟩
  | 102 => ⟨S7, .f32⟩
  | 103 => ⟨S7, .f32⟩
  | 104 => ⟨S7, .f32⟩
  | 105 => ⟨S1, .f32⟩
  | 106 => ⟨S8, .f32⟩
  | 107 => ⟨S_, .f32⟩
  | 108 => ⟨S8, .f32⟩
  | 109 => ⟨S8, .f32⟩
  | 110 => ⟨S_, .f32⟩
  | 111 => ⟨S8, .f32⟩
  | 112 => ⟨S8, .f32⟩
  | 113 => ⟨S_, .i32⟩
  | 114 => ⟨S1, .i32⟩
  | 115 => ⟨S_, .f32⟩
  | 116 => ⟨S8, .f32⟩
  | 117 => ⟨S1x8, .f32⟩
  | 118 => ⟨S_, .f32⟩
  | 119 => ⟨S16x8, .f32⟩
  | 120 => ⟨S16x8, .f32⟩
  | 121 => ⟨S16x8, .f32⟩
  | 122 => ⟨S16x8, .f32⟩
  | 123 => ⟨S16x8, .i1⟩
  | 124 => ⟨S16x8, .f32⟩
  | 125 => ⟨S16x8, .f32⟩
  | 126 => ⟨S16x8, .f32⟩
  | 127 => ⟨S16x8, .f32⟩
  | _ => ⟨S1x2048x1024, .f32⟩

abbrev hbmTy0_1 (i : Nat) : BufTy := match i % 128 with
  | 0 => ⟨S16x8, .f32⟩
  | 1 => ⟨S16x8, .f32⟩
  | 2 => ⟨S16x8, .f32⟩
  | 3 => ⟨S16x8, .f32⟩
  | 4 => ⟨S16x1x8, .f32⟩
  | 5 => ⟨S16x8, .f32⟩
  | 6 => ⟨S16x1x8, .f32⟩
  | 7 => ⟨S2048x1024, .f32⟩
  | 8 => ⟨S1x1024, .f32⟩
  | 9 => ⟨S2048x1024, .f32⟩
  | 10 => ⟨S1x2048x1024, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1024x1024, .f32⟩
  | .local _ .vmem, ⟨3, _⟩ => ⟨S1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1, .f32⟩
  | .local _ .vmem, ⟨11, _⟩ => ⟨S256x1, .f32⟩
  | .local _ .vmem, ⟨12, _⟩ => ⟨S1x1x1024, .f32⟩
  | .local _ .vmem, ⟨13, _⟩ => ⟨S8x1x1024, .f32⟩
  | .local _ .vmem, ⟨14, _⟩ => ⟨S1024x128, .f32⟩
  | .local _ .vmem, ⟨15, _⟩ => ⟨S1024x128, .f32⟩
  | .local _ .vmem, ⟨16, _⟩ => ⟨S2x1x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | .local _ .vmem, ⟨26, _⟩ => ⟨S2048x128, .f32⟩
  | .local _ .vmem, ⟨27, _⟩ => ⟨S2x256x8, .f32⟩
  | .local _ .vmem, ⟨28, _⟩ => ⟨S2x256x8, .f32⟩
  | .local _ .vmem, ⟨29, _⟩ => ⟨S2x256x8, .f32⟩
  | .local _ .vmem, ⟨30, _⟩ => ⟨S2x256x8, .f32⟩
  | .local _ .vmem, ⟨31, _⟩ => ⟨S1x1x512, .f32⟩
  | .local _ .vmem, ⟨32, _⟩ => ⟨S1x1x512, .f32⟩
  | .local _ .vmem, ⟨33, _⟩ => ⟨S256x1, .f32⟩
  | .local _ .vmem, ⟨34, _⟩ => ⟨S256x1, .f32⟩
  | .local _ .vmem, ⟨35, _⟩ => ⟨S1x8, .f32⟩
  | .local _ .vmem, ⟨36, _⟩ => ⟨S2x1x8, .f32⟩
  | .local _ .vmem, ⟨37, _⟩ => ⟨S2x1x8, .f32⟩
  | .local _ .vmem, ⟨38, _⟩ => ⟨S2x1x8, .f32⟩
  | .local _ .vmem, ⟨39, _⟩ => ⟨S2x1x8, .f32⟩
  | .local _ .vmem, ⟨40, _⟩ => ⟨S256x128, .f32⟩
  | .local _ .vmem, ⟨41, _⟩ => ⟨S256x128, .f32⟩
  | .local _ .vmem, ⟨42, _⟩ => ⟨S256x1024, .f32⟩
  | .local _ .vmem, ⟨43, _⟩ => ⟨S256x1024, .f32⟩
  | .local _ .vmem, ⟨44, _⟩ => ⟨S1024x1024, .f32⟩
  | .local _ .vmem, ⟨45, _⟩ => ⟨S1x1024, .f32⟩
  | .local _ .vmem, ⟨46, _⟩ => ⟨S256x1024, .f32⟩
  | .local _ .vmem, ⟨47, _⟩ => ⟨S256x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30_0 : Ref sig .tc := ⟨.hbm, 52, rfl⟩
abbrev main_v30_1 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst : Ref sig .tc := ⟨.hbm, 59, rfl⟩
abbrev main_v36 : Ref sig .tc := ⟨.hbm, 60, rfl⟩
abbrev main_v37 : Ref sig .tc := ⟨.hbm, 61, rfl⟩
abbrev main_call0_call0_cst : Ref sig .tc := ⟨.hbm, 62, rfl⟩
abbrev main_call0_call0_v0 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_0 : Ref sig .tc := ⟨.hbm, 84, rfl⟩
abbrev main_cst_1 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_call1_cst : Ref sig .tc := ⟨.hbm, 89, rfl⟩
abbrev main_call1_v3 : Ref sig .tc := ⟨.hbm, 90, rfl⟩
abbrev main_call1_v4 : Ref sig .tc := ⟨.hbm, 91, rfl⟩
abbrev main_call1_cst_0 : Ref sig .tc := ⟨.hbm, 92, rfl⟩
abbrev main_call1_v5 : Ref sig .tc := ⟨.hbm, 93, rfl⟩
abbrev main_call1_v6 : Ref sig .tc := ⟨.hbm, 94, rfl⟩
abbrev main_call1_v7 : Ref sig .tc := ⟨.hbm, 95, rfl⟩
abbrev main_call1_cst_1 : Ref sig .tc := ⟨.hbm, 96, rfl⟩
abbrev main_call1_v8 : Ref sig .tc := ⟨.hbm, 97, rfl⟩
abbrev main_call1_v9 : Ref sig .tc := ⟨.hbm, 98, rfl⟩
abbrev main_call1_v10 : Ref sig .tc := ⟨.hbm, 99, rfl⟩
abbrev main_call1_v11 : Ref sig .tc := ⟨.hbm, 100, rfl⟩
abbrev main_call1_v12 : Ref sig .tc := ⟨.hbm, 101, rfl⟩
abbrev main_call1_v13 : Ref sig .tc := ⟨.hbm, 102, rfl⟩
abbrev main_call1_v14 : Ref sig .tc := ⟨.hbm, 103, rfl⟩
abbrev main_call1_v15 : Ref sig .tc := ⟨.hbm, 104, rfl⟩
abbrev main_call1_v16 : Ref sig .tc := ⟨.hbm, 105, rfl⟩
abbrev main_v58 : Ref sig .tc := ⟨.hbm, 106, rfl⟩
abbrev main_cst_2 : Ref sig .tc := ⟨.hbm, 107, rfl⟩
abbrev main_v59 : Ref sig .tc := ⟨.hbm, 108, rfl⟩
abbrev main_v60 : Ref sig .tc := ⟨.hbm, 109, rfl⟩
abbrev main_cst_3 : Ref sig .tc := ⟨.hbm, 110, rfl⟩
abbrev main_v61 : Ref sig .tc := ⟨.hbm, 111, rfl⟩
abbrev main_v62 : Ref sig .tc := ⟨.hbm, 112, rfl⟩
abbrev main_c : Ref sig .tc := ⟨.hbm, 113, rfl⟩
abbrev main_v63 : Ref sig .tc := ⟨.hbm, 114, rfl⟩
abbrev main_cst_4 : Ref sig .tc := ⟨.hbm, 115, rfl⟩
abbrev main_v64 : Ref sig .tc := ⟨.hbm, 116, rfl⟩
abbrev main_v65 : Ref sig .tc := ⟨.hbm, 117, rfl⟩
abbrev main_call2_cst : Ref sig .tc := ⟨.hbm, 118, rfl⟩
abbrev main_call2_v0 : Ref sig .tc := ⟨.hbm, 119, rfl⟩
abbrev main_call2_v1 : Ref sig .tc := ⟨.hbm, 120, rfl⟩
abbrev main_call2_v2 : Ref sig .tc := ⟨.hbm, 121, rfl⟩
abbrev main_call2_v3 : Ref sig .tc := ⟨.hbm, 122, rfl⟩
abbrev main_call2_v4 : Ref sig .tc := ⟨.hbm, 123, rfl⟩
abbrev main_call2_v5 : Ref sig .tc := ⟨.hbm, 124, rfl⟩
abbrev main_call2_v6 : Ref sig .tc := ⟨.hbm, 125, rfl⟩
abbrev main_call2_v7 : Ref sig .tc := ⟨.hbm, 126, rfl⟩
abbrev main_call2_v8 : Ref sig .tc := ⟨.hbm, 127, rfl⟩
abbrev main_call2_v9 : Ref sig .tc := ⟨.hbm, 128, rfl⟩
abbrev main_call2_v10 : Ref sig .tc := ⟨.hbm, 129, rfl⟩
abbrev main_call2_v11 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc1_stg8_0 : Ref sig .tc := ⟨.vmem, 19, rfl⟩
abbrev cc1_stg8_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg4_1 : Ref sig .tc := ⟨.vmem, 30, rfl⟩
abbrev cc2_stg5_0 : Ref sig .tc := ⟨.vmem, 31, rfl⟩
abbrev cc2_stg5_1 : Ref sig .tc := ⟨.vmem, 32, rfl⟩
abbrev cc2_stg6_0 : Ref sig .tc := ⟨.vmem, 33, rfl⟩
abbrev cc2_stg6_1 : Ref sig .tc := ⟨.vmem, 34, rfl⟩
abbrev cc2_stg7_0 : Ref sig .tc := ⟨.vmem, 35, rfl⟩
abbrev cc2_stg8_0 : Ref sig .tc := ⟨.vmem, 36, rfl⟩
abbrev cc2_stg8_1 : Ref sig .tc := ⟨.vmem, 37, rfl⟩
abbrev cc2_stg9_0 : Ref sig .tc := ⟨.vmem, 38, rfl⟩
abbrev cc2_stg9_1 : Ref sig .tc := ⟨.vmem, 39, rfl⟩
abbrev cc2_stg10_0 : Ref sig .tc := ⟨.vmem, 40, rfl⟩
abbrev cc2_stg10_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg2_0 : Ref sig .tc := ⟨.vmem, 45, rfl⟩
abbrev cc3_stg3_0 : Ref sig .tc := ⟨.vmem, 46, rfl⟩
abbrev cc3_stg3_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18
abbrev cc1_sem8_0 : DmaSem sig := 19
abbrev cc1_sem8_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem3_1 : DmaSem sig := 28
abbrev cc2_sem4_0 : DmaSem sig := 29
abbrev cc2_sem4_1 : DmaSem sig := 30
abbrev cc2_sem5_0 : DmaSem sig := 31
abbrev cc2_sem5_1 : DmaSem sig := 32
abbrev cc2_sem6_0 : DmaSem sig := 33
abbrev cc2_sem6_1 : DmaSem sig := 34
abbrev cc2_sem7_0 : DmaSem sig := 35
abbrev cc2_sem8_0 : DmaSem sig := 36
abbrev cc2_sem8_1 : DmaSem sig := 37
abbrev cc2_sem9_0 : DmaSem sig := 38
abbrev cc2_sem9_1 : DmaSem sig := 39
abbrev cc2_sem10_0 : DmaSem sig := 40
abbrev cc2_sem10_1 : DmaSem sig := 41
abbrev cc3_sem0_0 : DmaSem sig := 42
abbrev cc3_sem0_1 : DmaSem sig := 43
abbrev cc3_sem1_0 : DmaSem sig := 44
abbrev cc3_sem2_0 : DmaSem sig := 45
abbrev cc3_sem3_0 : DmaSem sig := 46
abbrev cc3_sem3_1 : DmaSem sig := 47

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![8], ![false]⟩

def cc1_transform_0 (i : grid1.Coords) : Fin 2 → Nat :=
  let arg0 : BitVec 32 := BitVec.ofNat 32 (i 0).val
  let c3_i32 : BitVec 32 := 3#32
  let c0_i32 : BitVec 32 := 0#32
  ![arg0.toNat, c3_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2x1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S256x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨2, ![8, 8], ![false, false]⟩

def k2_off1 (i : grid2.Coords) : Fin 2 → Nat :=
  let c1536_i32 : BitVec 32 := 1536#32
  let c0_i32 : BitVec 32 := 0#32
  let arg1 : BitVec 32 := BitVec.ofNat 32 (i 1).val
  let c256_i32 : BitVec 32 := 256#32
  let v0 : BitVec 32 := Scalar.muli arg1 c256_i32
  let c144_i32 : BitVec 32 := 144#32
  let v1 : BitVec 32 := Scalar.subi v0 c144_i32
  let v2 : BitVec 32 := Scalar.maxsi c0_i32 v1
  let v3 : BitVec 32 := Scalar.minsi c1536_i32 v2
  let v8 : Index := Scalar.indexCast v3
  let c0_1 : Index := 0#32
  ![v8.toNat, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc2_transform_2 (i : grid2.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_9 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S256x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S2048x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S2x256x8 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S2x256x8 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x1x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![false, true]

abbrev stage2_6 : Fin 2 → Memref sig .tc .vmem S256x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![false, true]

abbrev stage2_7 : Fin 1 → Memref sig .tc .vmem S1x8 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 2 → Memref sig .tc .vmem S2x1x8 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false]

abbrev stage2_9 : Fin 2 → Memref sig .tc .vmem S2x1x8 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, false]

abbrev stage2_10 : Fin 2 → Memref sig .tc .vmem S256x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S256x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]
-- ==== ReferenceIdeal.lean ====
abbrev S1x2048x1024 : Shape := ⟨3, ![1, 2048, 1024]⟩
abbrev S1x2048 : Shape := ⟨2, ![1, 2048]⟩
abbrev S1024x1024 : Shape := ⟨2, ![1024, 1024]⟩
abbrev S1024 : Shape := ⟨1, ![1024]⟩
abbrev S9x256 : Shape := ⟨2, ![9, 256]⟩
abbrev S1x256 : Shape := ⟨2, ![1, 256]⟩
abbrev S256 : Shape := ⟨1, ![256]⟩
abbrev S1536x1024 : Shape := ⟨2, ![1536, 1024]⟩
abbrev S1024x128 : Shape := ⟨2, ![1024, 128]⟩
abbrev S128 : Shape := ⟨1, ![128]⟩
abbrev S16x8 : Shape := ⟨2, ![16, 8]⟩
abbrev S2048x1024 : Shape := ⟨2, ![2048, 1024]⟩
abbrev S1x1024 : Shape := ⟨2, ![1, 1024]⟩
abbrev S2048x16x64 : Shape := ⟨3, ![2048, 16, 64]⟩
abbrev S16x2048x64 : Shape := ⟨3, ![16, 2048, 64]⟩
abbrev S2048 : Shape := ⟨1, ![2048]⟩
abbrev S_ : Shape := ⟨0, ![]⟩
abbrev S2048x1 : Shape := ⟨2, ![2048, 1]⟩
abbrev S2048x256 : Shape := ⟨2, ![2048, 256]⟩
abbrev S2048x1536 : Shape := ⟨2, ![2048, 1536]⟩
abbrev S2048x128 : Shape := ⟨2, ![2048, 128]⟩
abbrev S1x128 : Shape := ⟨2, ![1, 128]⟩
abbrev S2048x16x8 : Shape := ⟨3, ![2048, 16, 8]⟩
abbrev S16x2048x8 : Shape := ⟨3, ![16, 2048, 8]⟩
abbrev S1x2048x1 : Shape := ⟨3, ![1, 2048, 1]⟩
abbrev S7 : Shape := ⟨1, ![7]⟩
abbrev S1 : Shape := ⟨1, ![1]⟩
abbrev S8 : Shape := ⟨1, ![8]⟩
abbrev S1x1x8 : Shape := ⟨3, ![1, 1, 8]⟩
abbrev S1x2048x8 : Shape := ⟨3, ![1, 2048, 8]⟩
abbrev S16 : Shape := ⟨1, ![16]⟩
abbrev S16x1x1 : Shape := ⟨3, ![16, 1, 1]⟩
abbrev S16x2048x8x1 : Shape := ⟨4, ![16, 2048, 8, 1]⟩
abbrev S16x2048x8x2 : Shape := ⟨4, ![16, 2048, 8, 2]⟩
abbrev S16x2048x8x64 : Shape := ⟨4, ![16, 2048, 8, 64]⟩
abbrev S16x1x8 : Shape := ⟨3, ![16, 1, 8]⟩
abbrev S16x2048x1x64 : Shape := ⟨4, ![16, 2048, 1, 64]⟩
abbrev S16x2048 : Shape := ⟨2, ![16, 2048]⟩
abbrev S16x2048x1 : Shape := ⟨3, ![16, 2048, 1]⟩

abbrev nBuf : Space → Nat
  | .hbm => 380
  | .vmem => 0
  | .smem => 0
  | _ => 0

abbrev hbmTy0_0 (i : Nat) : BufTy := match i % 128 with
  | 0 => ⟨S1x2048x1024, .f32⟩
  | 1 => ⟨S1x2048, .f32⟩
  | 2 => ⟨S1024x1024, .f32⟩
  | 3 => ⟨S1024, .f32⟩
  | 4 => ⟨S1024x1024, .f32⟩
  | 5 => ⟨S1024, .f32⟩
  | 6 => ⟨S1024x1024, .f32⟩
  | 7 => ⟨S1024, .f32⟩
  | 8 => ⟨S9x256, .f32⟩
  | 9 => ⟨S1x256, .f32⟩
  | 10 => ⟨S256, .f32⟩
  | 11 => ⟨S1536x1024, .f32⟩
  | 12 => ⟨S1024, .f32⟩
  | 13 => ⟨S1024x128, .f32⟩
  | 14 => ⟨S128, .f32⟩
  | 15 => ⟨S1024x128, .f32⟩
  | 16 => ⟨S128, .f32⟩
  | 17 => ⟨S1024x1024, .f32⟩
  | 18 => ⟨S1024, .f32⟩
  | 19 => ⟨S16x8, .f32⟩
  | 20 => ⟨S16x8, .f32⟩
  | 21 => ⟨S16x8, .f32⟩
  | 22 => ⟨S2048x1024, .f32⟩
  | 23 => ⟨S2048x1024, .f32⟩
  | 24 => ⟨S1x1024, .f32⟩
  | 25 => ⟨S2048x1024, .f32⟩
  | 26 => ⟨S2048x1024, .f32⟩
  | 27 => ⟨S2048x16x64, .f32⟩
  | 28 => ⟨S16x2048x64, .f32⟩
  | 29 => ⟨S2048x1024, .f32⟩
  | 30 => ⟨S1x1024, .f32⟩
  | 31 => ⟨S2048x1024, .f32⟩
  | 32 => ⟨S2048x1024, .f32⟩
  | 33 => ⟨S2048x16x64, .f32⟩
  | 34 => ⟨S16x2048x64, .f32⟩
  | 35 => ⟨S2048x1024, .f32⟩
  | 36 => ⟨S1x1024, .f32⟩
  | 37 => ⟨S2048x1024, .f32⟩
  | 38 => ⟨S2048x1024, .f32⟩
  | 39 => ⟨S2048x16x64, .f32⟩
  | 40 => ⟨S16x2048x64, .f32⟩
  | 41 => ⟨S2048, .f32⟩
  | 42 => ⟨S_, .f32⟩
  | 43 => ⟨S2048, .f32⟩
  | 44 => ⟨S2048, .f32⟩
  | 45 => ⟨S2048, .f32⟩
  | 46 => ⟨S2048x1, .f32⟩
  | 47 => ⟨S_, .f32⟩
  | 48 => ⟨S2048, .f32⟩
  | 49 => ⟨S2048, .i1⟩
  | 50 => ⟨S2048, .i32⟩
  | 51 => ⟨S_, .i32⟩
  | 52 => ⟨S2048, .i32⟩
  | 53 => ⟨S2048, .i32⟩
  | 54 => ⟨S_, .f32⟩
  | 55 => ⟨S2048, .f32⟩
  | 56 => ⟨S2048, .i1⟩
  | 57 => ⟨S2048, .i32⟩
  | 58 => ⟨S2048, .i32⟩
  | 59 => ⟨S_, .f32⟩
  | 60 => ⟨S2048, .f32⟩
  | 61 => ⟨S2048, .i1⟩
  | 62 => ⟨S2048, .i32⟩
  | 63 => ⟨S2048, .i32⟩
  | 64 => ⟨S_, .f32⟩
  | 65 => ⟨S2048, .f32⟩
  | 66 => ⟨S2048, .i1⟩
  | 67 => ⟨S2048, .i32⟩
  | 68 => ⟨S2048, .i32⟩
  | 69 => ⟨S_, .f32⟩
  | 70 => ⟨S2048, .f32⟩
  | 71 => ⟨S2048, .i1⟩
  | 72 => ⟨S2048, .i32⟩
  | 73 => ⟨S2048, .i32⟩
  | 74 => ⟨S_, .f32⟩
  | 75 => ⟨S2048, .f32⟩
  | 76 => ⟨S2048, .i1⟩
  | 77 => ⟨S2048, .i32⟩
  | 78 => ⟨S2048, .i32⟩
  | 79 => ⟨S_, .f32⟩
  | 80 => ⟨S2048, .f32⟩
  | 81 => ⟨S2048, .i1⟩
  | 82 => ⟨S2048, .i32⟩
  | 83 => ⟨S2048, .i32⟩
  | 84 => ⟨S_, .f32⟩
  | 85 => ⟨S2048, .f32⟩
  | 86 => ⟨S2048, .i1⟩
  | 87 => ⟨S2048, .i32⟩
  | 88 => ⟨S2048, .i32⟩
  | 89 => ⟨S2048x256, .f32⟩
  | 90 => ⟨S1x256, .f32⟩
  | 91 => ⟨S2048x256, .f32⟩
  | 92 => ⟨S2048x256, .f32⟩
  | 93 => ⟨S_, .i32⟩
  | 94 => ⟨S2048, .i32⟩
  | 95 => ⟨S2048, .i1⟩
  | 96 => ⟨S_, .i32⟩
  | 97 => ⟨S2048, .i32⟩
  | 98 => ⟨S2048, .i32⟩
  | 99 => ⟨S2048, .i32⟩
  | 100 => ⟨S2048x1, .i32⟩
  | 101 => ⟨S2048x256, .f32⟩
  | 102 => ⟨S2048x1536, .f32⟩
  | 103 => ⟨S2048x1024, .f32⟩
  | 104 => ⟨S1x1024, .f32⟩
  | 105 => ⟨S2048x1024, .f32⟩
  | 106 => ⟨S2048x1024, .f32⟩
  | 107 => ⟨S2048x128, .f32⟩
  | 108 => ⟨S1x128, .f32⟩
  | 109 => ⟨S2048x128, .f32⟩
  | 110 => ⟨S2048x128, .f32⟩
  | 111 => ⟨S2048x128, .f32⟩
  | 112 => ⟨S2048x16x8, .f32⟩
  | 113 => ⟨S16x2048x8, .f32⟩
  | 114 => ⟨S2048x128, .f32⟩
  | 115 => ⟨S1x128, .f32⟩
  | 116 => ⟨S2048x128, .f32⟩
  | 117 => ⟨S2048x128, .f32⟩
  | 118 => ⟨S2048x16x8, .f32⟩
  | 119 => ⟨S16x2048x8, .f32⟩
  | 120 => ⟨S2048, .f32⟩
  | 121 => ⟨S1x2048x1, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S1x2048x1024, .f32⟩

abbrev hbmTy0_1 (i : Nat) : BufTy := match i % 128 with
  | 0 => ⟨S_, .f32⟩
  | 1 => ⟨S7, .f32⟩
  | 2 => ⟨S_, .f32⟩
  | 3 => ⟨S7, .f32⟩
  | 4 => ⟨S7, .f32⟩
  | 5 => ⟨S1, .f32⟩
  | 6 => ⟨S_, .f32⟩
  | 7 => ⟨S7, .f32⟩
  | 8 => ⟨S7, .f32⟩
  | 9 => ⟨S7, .f32⟩
  | 10 => ⟨S7, .f32⟩
  | 11 => ⟨S1, .f32⟩
  | 12 => ⟨S7, .f32⟩
  | 13 => ⟨S7, .f32⟩
  | 14 => ⟨S7, .f32⟩
  | 15 => ⟨S1, .f32⟩
  | 16 => ⟨S8, .f32⟩
  | 17 => ⟨S_, .f32⟩
  | 18 => ⟨S8, .f32⟩
  | 19 => ⟨S8, .f32⟩
  | 20 => ⟨S_, .f32⟩
  | 21 => ⟨S8, .f32⟩
  | 22 => ⟨S8, .f32⟩
  | 23 => ⟨S_, .i32⟩
  | 24 => ⟨S1, .i32⟩
  | 25 => ⟨S_, .f32⟩
  | 26 => ⟨S8, .f32⟩
  | 27 => ⟨S1x1x8, .f32⟩
  | 28 => ⟨S1x2048x8, .f32⟩
  | 29 => ⟨S1x2048x8, .f32⟩
  | 30 => ⟨S1x2048x8, .f32⟩
  | 31 => ⟨S_, .f32⟩
  | 32 => ⟨S16x2048x8, .f32⟩
  | 33 => ⟨S16x2048x8, .f32⟩
  | 34 => ⟨S16x2048x8, .f32⟩
  | 35 => ⟨S16x2048x8, .f32⟩
  | 36 => ⟨S_, .f32⟩
  | 37 => ⟨S16x2048x8, .f32⟩
  | 38 => ⟨S16x2048x8, .f32⟩
  | 39 => ⟨S16x2048x8, .f32⟩
  | 40 => ⟨S16x2048x8, .f32⟩
  | 41 => ⟨S16x2048x8, .f32⟩
  | 42 => ⟨S16x2048x8, .i32⟩
  | 43 => ⟨S_, .i32⟩
  | 44 => ⟨S_, .i32⟩
  | 45 => ⟨S_, .i32⟩
  | 46 => ⟨S16x2048x8, .i32⟩
  | 47 => ⟨S16x2048x8, .i32⟩
  | 48 => ⟨S_, .i32⟩
  | 49 => ⟨S16x2048x8, .i32⟩
  | 50 => ⟨S16x2048x8, .i32⟩
  | 51 => ⟨S_, .i32⟩
  | 52 => ⟨S16x2048x8, .i32⟩
  | 53 => ⟨S16x2048x8, .i32⟩
  | 54 => ⟨S_, .i32⟩
  | 55 => ⟨S_, .i32⟩
  | 56 => ⟨S_, .i32⟩
  | 57 => ⟨S16x2048x8, .i32⟩
  | 58 => ⟨S16x2048x8, .i32⟩
  | 59 => ⟨S_, .i32⟩
  | 60 => ⟨S16x2048x8, .i32⟩
  | 61 => ⟨S16x2048x8, .i32⟩
  | 62 => ⟨S16x2048x8, .f32⟩
  | 63 => ⟨S16x2048x8, .f32⟩
  | 64 => ⟨S16, .i32⟩
  | 65 => ⟨S16x1x1, .i32⟩
  | 66 => ⟨S16x2048x8x1, .f32⟩
  | 67 => ⟨S_, .i32⟩
  | 68 => ⟨S16x1x1, .i32⟩
  | 69 => ⟨S16x1x1, .i1⟩
  | 70 => ⟨S_, .i32⟩
  | 71 => ⟨S16x1x1, .i32⟩
  | 72 => ⟨S16x1x1, .i32⟩
  | 73 => ⟨S16x1x1, .i32⟩
  | 74 => ⟨S_, .i32⟩
  | 75 => ⟨S16x2048x8, .i32⟩
  | 76 => ⟨S16x2048x8, .i1⟩
  | 77 => ⟨S_, .i32⟩
  | 78 => ⟨S16x2048x8, .i32⟩
  | 79 => ⟨S16x2048x8, .i32⟩
  | 80 => ⟨S16x2048x8, .i32⟩
  | 81 => ⟨S16x2048x8, .i32⟩
  | 82 => ⟨S16x2048x8x1, .i32⟩
  | 83 => ⟨S16x2048x8x1, .i32⟩
  | 84 => ⟨S16x2048x8x2, .i32⟩
  | 85 => ⟨S16x2048x8x64, .f32⟩
  | 86 => ⟨S_, .f32⟩
  | 87 => ⟨S16x2048x8x1, .f32⟩
  | 88 => ⟨S16x2048x8x1, .f32⟩
  | 89 => ⟨S16x2048x8x64, .f32⟩
  | 90 => ⟨S16x2048x8x64, .f32⟩
  | 91 => ⟨S_, .i32⟩
  | 92 => ⟨S16x1x1, .i32⟩
  | 93 => ⟨S16x1x1, .i1⟩
  | 94 => ⟨S_, .i32⟩
  | 95 => ⟨S16x1x1, .i32⟩
  | 96 => ⟨S16x1x1, .i32⟩
  | 97 => ⟨S16x1x1, .i32⟩
  | 98 => ⟨S_, .i32⟩
  | 99 => ⟨S16x2048x8, .i32⟩
  | 100 => ⟨S16x2048x8, .i1⟩
  | 101 => ⟨S_, .i32⟩
  | 102 => ⟨S16x2048x8, .i32⟩
  | 103 => ⟨S16x2048x8, .i32⟩
  | 104 => ⟨S16x2048x8, .i32⟩
  | 105 => ⟨S16x2048x8, .i32⟩
  | 106 => ⟨S16x2048x8x1, .i32⟩
  | 107 => ⟨S16x2048x8x1, .i32⟩
  | 108 => ⟨S16x2048x8x2, .i32⟩
  | 109 => ⟨S16x2048x8x64, .f32⟩
  | 110 => ⟨S16x2048x8x64, .f32⟩
  | 111 => ⟨S16x2048x8x64, .f32⟩
  | 112 => ⟨S16x2048x8x64, .f32⟩
  | 113 => ⟨S_, .i32⟩
  | 114 => ⟨S16x1x1, .i32⟩
  | 115 => ⟨S16x1x1, .i1⟩
  | 116 => ⟨S_, .i32⟩
  | 117 => ⟨S16x1x1, .i32⟩
  | 118 => ⟨S16x1x1, .i32⟩
  | 119 => ⟨S16x1x1, .i32⟩
  | 120 => ⟨S_, .i32⟩
  | 121 => ⟨S16x2048x8, .i32⟩
  | 122 => ⟨S16x2048x8, .i1⟩
  | 123 => ⟨S_, .i32⟩
  | 124 => ⟨S16x2048x8, .i32⟩
  | 125 => ⟨S16x2048x8, .i32⟩
  | 126 => ⟨S16x2048x8, .i32⟩
  | 127 => ⟨S16x2048x8, .i32⟩
  | _ => ⟨S1x2048x1024, .f32⟩

abbrev hbmTy0_2 (i : Nat) : BufTy := match i % 128 with
  | 0 => ⟨S16x2048x8x1, .i32⟩
  | 1 => ⟨S16x2048x8x1, .i32⟩
  | 2 => ⟨S16x2048x8x2, .i32⟩
  | 3 => ⟨S16x2048x8x64, .f32⟩
  | 4 => ⟨S_, .f32⟩
  | 5 => ⟨S16x2048x8x1, .f32⟩
  | 6 => ⟨S16x2048x8x1, .f32⟩
  | 7 => ⟨S16x2048x8x64, .f32⟩
  | 8 => ⟨S16x2048x8x64, .f32⟩
  | 9 => ⟨S_, .i32⟩
  | 10 => ⟨S16x1x1, .i32⟩
  | 11 => ⟨S16x1x1, .i1⟩
  | 12 => ⟨S_, .i32⟩
  | 13 => ⟨S16x1x1, .i32⟩
  | 14 => ⟨S16x1x1, .i32⟩
  | 15 => ⟨S16x1x1, .i32⟩
  | 16 => ⟨S_, .i32⟩
  | 17 => ⟨S16x2048x8, .i32⟩
  | 18 => ⟨S16x2048x8, .i1⟩
  | 19 => ⟨S_, .i32⟩
  | 20 => ⟨S16x2048x8, .i32⟩
  | 21 => ⟨S16x2048x8, .i32⟩
  | 22 => ⟨S16x2048x8, .i32⟩
  | 23 => ⟨S16x2048x8, .i32⟩
  | 24 => ⟨S16x2048x8x1, .i32⟩
  | 25 => ⟨S16x2048x8x1, .i32⟩
  | 26 => ⟨S16x2048x8x2, .i32⟩
  | 27 => ⟨S16x2048x8x64, .f32⟩
  | 28 => ⟨S16x2048x8x64, .f32⟩
  | 29 => ⟨S16x2048x8x64, .f32⟩
  | 30 => ⟨S16x2048x8x64, .f32⟩
  | 31 => ⟨S_, .f32⟩
  | 32 => ⟨S_, .f32⟩
  | 33 => ⟨S2048, .f32⟩
  | 34 => ⟨S_, .i32⟩
  | 35 => ⟨S16x2048x8, .i32⟩
  | 36 => ⟨S16x2048x8, .i1⟩
  | 37 => ⟨S_, .i32⟩
  | 38 => ⟨S16x2048x8, .i32⟩
  | 39 => ⟨S16x2048x8, .i32⟩
  | 40 => ⟨S16x2048x8, .i32⟩
  | 41 => ⟨S16x2048x8x1, .i32⟩
  | 42 => ⟨S16x2048x8, .f32⟩
  | 43 => ⟨S_, .f32⟩
  | 44 => ⟨S16x2048x8, .f32⟩
  | 45 => ⟨S16x2048x8, .f32⟩
  | 46 => ⟨S16x2048x8, .f32⟩
  | 47 => ⟨S_, .i32⟩
  | 48 => ⟨S16x2048x8, .i32⟩
  | 49 => ⟨S16x2048x8, .i1⟩
  | 50 => ⟨S_, .i32⟩
  | 51 => ⟨S16x2048x8, .i32⟩
  | 52 => ⟨S16x2048x8, .i32⟩
  | 53 => ⟨S16x2048x8, .i32⟩
  | 54 => ⟨S16x2048x8x1, .i32⟩
  | 55 => ⟨S16x2048x8, .f32⟩
  | 56 => ⟨S16x2048x8, .f32⟩
  | 57 => ⟨S16x2048x8, .f32⟩
  | 58 => ⟨S1x2048x1, .f32⟩
  | 59 => ⟨S16x2048x8, .f32⟩
  | 60 => ⟨S16x2048x8, .f32⟩
  | 61 => ⟨S_, .f32⟩
  | 62 => ⟨S16x2048x8, .f32⟩
  | 63 => ⟨S16x2048x8, .f32⟩
  | 64 => ⟨S16x2048x8, .f32⟩
  | 65 => ⟨S_, .f32⟩
  | 66 => ⟨S16x8, .f32⟩
  | 67 => ⟨S16x8, .f32⟩
  | 68 => ⟨S16x8, .f32⟩
  | 69 => ⟨S16x8, .f32⟩
  | 70 => ⟨S16x8, .i1⟩
  | 71 => ⟨S16x8, .f32⟩
  | 72 => ⟨S16x8, .f32⟩
  | 73 => ⟨S16x8, .f32⟩
  | 74 => ⟨S16x8, .f32⟩
  | 75 => ⟨S16x8, .f32⟩
  | 76 => ⟨S16x8, .f32⟩
  | 77 => ⟨S16x8, .f32⟩
  | 78 => ⟨S16x8, .f32⟩
  | 79 => ⟨S16x1x8, .f32⟩
  | 80 => ⟨S16x1x8, .f32⟩
  | 81 => ⟨S16x2048x8, .f32⟩
  | 82 => ⟨S16x2048x8, .f32⟩
  | 83 => ⟨S16x2048x8, .f32⟩
  | 84 => ⟨S16x2048x8, .f32⟩
  | 85 => ⟨S16x2048x1x64, .f32⟩
  | 86 => ⟨S16x2048x8x64, .f32⟩
  | 87 => ⟨S16x2048x8x64, .f32⟩
  | 88 => ⟨S_, .f32⟩
  | 89 => ⟨S16x2048x8, .f32⟩
  | 90 => ⟨S_, .f32⟩
  | 91 => ⟨S16x2048x8, .f32⟩
  | 92 => ⟨S16x2048x8, .f32⟩
  | 93 => ⟨S16x2048x8, .f32⟩
  | 94 => ⟨S16x2048x8, .f32⟩
  | 95 => ⟨S16x1x8, .f32⟩
  | 96 => ⟨S16x2048x8, .f32⟩
  | 97 => ⟨S16x2048x8, .f32⟩
  | 98 => ⟨S_, .f32⟩
  | 99 => ⟨S16x2048, .f32⟩
  | 100 => ⟨S_, .f32⟩
  | 101 => ⟨S16x2048, .f32⟩
  | 102 => ⟨S16x2048, .f32⟩
  | 103 => ⟨S16x2048x1, .f32⟩
  | 104 => ⟨S16x2048x8, .f32⟩
  | 105 => ⟨S16x2048x8, .f32⟩
  | 106 => ⟨S16x2048x8, .f32⟩
  | 107 => ⟨S_, .f32⟩
  | 108 => ⟨S16x2048, .f32⟩
  | 109 => ⟨S16x2048x1, .f32⟩
  | 110 => ⟨S16x2048x8, .f32⟩
  | 111 => ⟨S16x2048x8, .f32⟩
  | 112 => ⟨S16x2048x8x1, .f32⟩
  | 113 => ⟨S16x2048x8x64, .f32⟩
  | 114 => ⟨S16x2048x8x64, .f32⟩
  | 115 => ⟨S_, .f32⟩
  | 116 => ⟨S16x2048x64, .f32⟩
  | 117 => ⟨S2048x16x64, .f32⟩
  | 118 => ⟨S2048x1024, .f32⟩
  | 119 => ⟨S2048x1024, .f32⟩
  | 120 => ⟨S1x1024, .f32⟩
  | 121 => ⟨S2048x1024, .f32⟩
  | 122 => ⟨S2048x1024, .f32⟩
  | 123 => ⟨S1x2048x1024, .f32⟩
  | _ => ⟨S1x2048x1024, .f32⟩

abbrev hbmTy (i : Nat) : BufTy := match i / 128 with
  | 0 => hbmTy0_0 i
  | 1 => hbmTy0_1 i
  | 2 => hbmTy0_2 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_0 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c : Ref sig .tc := ⟨.hbm, 51, rfl⟩
abbrev main_v27 : Ref sig .tc := ⟨.hbm, 52, rfl⟩
abbrev main_v28 : Ref sig .tc := ⟨.hbm, 53, rfl⟩
abbrev main_cst_1 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_2 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_3 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_4 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_5 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_6 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_7 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_c_8 : Ref sig .tc := ⟨.hbm, 93, rfl⟩
abbrev main_v61 : Ref sig .tc := ⟨.hbm, 94, rfl⟩
abbrev main_v62 : Ref sig .tc := ⟨.hbm, 95, rfl⟩
abbrev main_c_9 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_10 : Ref sig .tc := ⟨.hbm, 122, rfl⟩
abbrev main_cst_11 : Ref sig .tc := ⟨.hbm, 123, rfl⟩
abbrev main_call0_v0 : Ref sig .tc := ⟨.hbm, 124, rfl⟩
abbrev main_call0_v1 : Ref sig .tc := ⟨.hbm, 125, rfl⟩
abbrev main_call0_v2 : Ref sig .tc := ⟨.hbm, 126, rfl⟩
abbrev main_call0_cst : Ref sig .tc := ⟨.hbm, 127, rfl⟩
abbrev main_call0_v3 : Ref sig .tc := ⟨.hbm, 128, rfl⟩
abbrev main_call0_v4 : Ref sig .tc := ⟨.hbm, 129, rfl⟩
abbrev main_call0_cst_0 : Ref sig .tc := ⟨.hbm, 130, rfl⟩
abbrev main_call0_v5 : Ref sig .tc := ⟨.hbm, 131, rfl⟩
abbrev main_call0_v6 : Ref sig .tc := ⟨.hbm, 132, rfl⟩
abbrev main_call0_v7 : Ref sig .tc := ⟨.hbm, 133, rfl⟩
abbrev main_call0_cst_1 : Ref sig .tc := ⟨.hbm, 134, rfl⟩
abbrev main_call0_v8 : Ref sig .tc := ⟨.hbm, 135, rfl⟩
abbrev main_call0_v9 : Ref sig .tc := ⟨.hbm, 136, rfl⟩
abbrev main_call0_v10 : Ref sig .tc := ⟨.hbm, 137, rfl⟩
abbrev main_call0_v11 : Ref sig .tc := ⟨.hbm, 138, rfl⟩
abbrev main_call0_v12 : Ref sig .tc := ⟨.hbm, 139, rfl⟩
abbrev main_call0_v13 : Ref sig .tc := ⟨.hbm, 140, rfl⟩
abbrev main_call0_v14 : Ref sig .tc := ⟨.hbm, 141, rfl⟩
abbrev main_call0_v15 : Ref sig .tc := ⟨.hbm, 142, rfl⟩
abbrev main_call0_v16 : Ref sig .tc := ⟨.hbm, 143, rfl⟩
abbrev main_v88 : Ref sig .tc := ⟨.hbm, 144, rfl⟩
abbrev main_cst_12 : Ref sig .tc := ⟨.hbm, 145, rfl⟩
abbrev main_v89 : Ref sig .tc := ⟨.hbm, 146, rfl⟩
abbrev main_v90 : Ref sig .tc := ⟨.hbm, 147, rfl⟩
abbrev main_cst_13 : Ref sig .tc := ⟨.hbm, 148, rfl⟩
abbrev main_v91 : Ref sig .tc := ⟨.hbm, 149, rfl⟩
abbrev main_v92 : Ref sig .tc := ⟨.hbm, 150, rfl⟩
abbrev main_c_14 : Ref sig .tc := ⟨.hbm, 151, rfl⟩
abbrev main_v93 : Ref sig .tc := ⟨.hbm, 152, rfl⟩
abbrev main_cst_15 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_cst_16 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_cst_17 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_c_18 : Ref sig .tc := ⟨.hbm, 171, rfl⟩
abbrev main_c_19 : Ref sig .tc := ⟨.hbm, 172, rfl⟩
abbrev main_call1_v0 : Ref sig .tc := ⟨.hbm, 173, rfl⟩
abbrev main_call1_v1 : Ref sig .tc := ⟨.hbm, 174, rfl⟩
abbrev main_call1_v2 : Ref sig .tc := ⟨.hbm, 175, rfl⟩
abbrev main_call1_v3 : Ref sig .tc := ⟨.hbm, 176, rfl⟩
abbrev main_call1_v4 : Ref sig .tc := ⟨.hbm, 177, rfl⟩
abbrev main_v109 : Ref sig .tc := ⟨.hbm, 178, rfl⟩
abbrev main_c_20 : Ref sig .tc := ⟨.hbm, 179, rfl⟩
abbrev main_v110 : Ref sig .tc := ⟨.hbm, 180, rfl⟩
abbrev main_v111 : Ref sig .tc := ⟨.hbm, 181, rfl⟩
abbrev main_c_21 : Ref sig .tc := ⟨.hbm, 182, rfl⟩
abbrev main_c_22 : Ref sig .tc := ⟨.hbm, 183, rfl⟩
abbrev main_call2_v0 : Ref sig .tc := ⟨.hbm, 184, rfl⟩
abbrev main_call2_v1 : Ref sig .tc := ⟨.hbm, 185, rfl⟩
abbrev main_call2_v2 : Ref sig .tc := ⟨.hbm, 186, rfl⟩
abbrev main_call2_v3 : Ref sig .tc := ⟨.hbm, 187, rfl⟩
abbrev main_call2_v4 : Ref sig .tc := ⟨.hbm, 188, rfl⟩
abbrev main_v112 : Ref sig .tc := ⟨.hbm, 189, rfl⟩
abbrev main_v113 : Ref sig .tc := ⟨.hbm, 190, rfl⟩
abbrev main_v114 : Ref sig .tc := ⟨.hbm, 191, rfl⟩
abbrev main_v115 : Ref sig .tc := ⟨.hbm, 192, rfl⟩
abbrev main_v116 : Ref sig .tc := ⟨.hbm, 193, rfl⟩
abbrev main_v117 : Ref sig .tc := ⟨.hbm, 194, rfl⟩
abbrev main_c_23 : Ref sig .tc := ⟨.hbm, 195, rfl⟩
abbrev main_v118 : Ref sig .tc := ⟨.hbm, 196, rfl⟩
abbrev main_v119 : Ref sig .tc := ⟨.hbm, 197, rfl⟩
abbrev main_c_24 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev main_c_25 : Ref sig .tc := ⟨.hbm, 202, rfl⟩
abbrev main_v123 : Ref sig .tc := ⟨.hbm, 203, rfl⟩
abbrev main_v124 : Ref sig .tc := ⟨.hbm, 204, rfl⟩
abbrev main_c_26 : Ref sig .tc := ⟨.hbm, 205, rfl⟩
abbrev main_v125 : Ref sig .tc := ⟨.hbm, 206, rfl⟩
abbrev main_v126 : Ref sig .tc := ⟨.hbm, 207, rfl⟩
abbrev main_v127 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_v131 : Ref sig .tc := ⟨.hbm, 212, rfl⟩
abbrev main_v132 : Ref sig .tc := ⟨.hbm, 213, rfl⟩
abbrev main_cst_27 : Ref sig .tc := ⟨.hbm, 214, rfl⟩
abbrev main_v133 : Ref sig .tc := ⟨.hbm, 215, rfl⟩
abbrev main_v134 : Ref sig .tc := ⟨.hbm, 216, rfl⟩
abbrev main_v135 : Ref sig .tc := ⟨.hbm, 217, rfl⟩
abbrev main_v136 : Ref sig .tc := ⟨.hbm, 218, rfl⟩
abbrev main_c_28 : Ref sig .tc := ⟨.hbm, 219, rfl⟩
abbrev main_v137 : Ref sig .tc := ⟨.hbm, 220, rfl⟩
abbrev main_v138 : Ref sig .tc := ⟨.hbm, 221, rfl⟩
abbrev main_c_29 : Ref sig .tc := ⟨.hbm, 222, rfl⟩
abbrev main_v139 : Ref sig .tc := ⟨.hbm, 223, rfl⟩
abbrev main_v140 : Ref sig .tc := ⟨.hbm, 224, rfl⟩
abbrev main_v141 : Ref sig .tc := ⟨.hbm, 225, rfl⟩
abbrev main_c_30 : Ref sig .tc := ⟨.hbm, 226, rfl⟩
abbrev main_v142 : Ref sig .tc := ⟨.hbm, 227, rfl⟩
abbrev main_v143 : Ref sig .tc := ⟨.hbm, 228, rfl⟩
abbrev main_c_31 : Ref sig .tc := ⟨.hbm, 229, rfl⟩
abbrev main_v144 : Ref sig .tc := ⟨.hbm, 230, rfl⟩
abbrev main_v145 : Ref sig .tc := ⟨.hbm, 231, rfl⟩
abbrev main_v146 : Ref sig .tc := ⟨.hbm, 232, rfl⟩
abbrev main_v147 : Ref sig .tc := ⟨.hbm, 233, rfl⟩
abbrev main_v148 : Ref sig .tc := ⟨.hbm, 234, rfl⟩
abbrev main_v149 : Ref sig .tc := ⟨.hbm, 235, rfl⟩
abbrev main_v150 : Ref sig .tc := ⟨.hbm, 236, rfl⟩
abbrev main_v151 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_c_32 : Ref sig .tc := ⟨.hbm, 241, rfl⟩
abbrev main_v155 : Ref sig .tc := ⟨.hbm, 242, rfl⟩
abbrev main_v156 : Ref sig .tc := ⟨.hbm, 243, rfl⟩
abbrev main_c_33 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_c_34 : Ref sig .tc := ⟨.hbm, 248, rfl⟩
abbrev main_v160 : Ref sig .tc := ⟨.hbm, 249, rfl⟩
abbrev main_v161 : Ref sig .tc := ⟨.hbm, 250, rfl⟩
abbrev main_c_35 : Ref sig .tc := ⟨.hbm, 251, rfl⟩
abbrev main_v162 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_v166 : Ref sig .tc := ⟨.hbm, 256, rfl⟩
abbrev main_v167 : Ref sig .tc := ⟨.hbm, 257, rfl⟩
abbrev main_v168 : Ref sig .tc := ⟨.hbm, 258, rfl⟩
abbrev main_v169 : Ref sig .tc := ⟨.hbm, 259, rfl⟩
abbrev main_cst_36 : Ref sig .tc := ⟨.hbm, 260, rfl⟩
abbrev main_v170 : Ref sig .tc := ⟨.hbm, 261, rfl⟩
abbrev main_v171 : Ref sig .tc := ⟨.hbm, 262, rfl⟩
abbrev main_v172 : Ref sig .tc := ⟨.hbm, 263, rfl⟩
abbrev main_v173 : Ref sig .tc := ⟨.hbm, 264, rfl⟩
abbrev main_c_37 : Ref sig .tc := ⟨.hbm, 265, rfl⟩
abbrev main_v174 : Ref sig .tc := ⟨.hbm, 266, rfl⟩
abbrev main_v175 : Ref sig .tc := ⟨.hbm, 267, rfl⟩
abbrev main_c_38 : Ref sig .tc := ⟨.hbm, 268, rfl⟩
abbrev main_v176 : Ref sig .tc := ⟨.hbm, 269, rfl⟩
abbrev main_v177 : Ref sig .tc := ⟨.hbm, 270, rfl⟩
abbrev main_v178 : Ref sig .tc := ⟨.hbm, 271, rfl⟩
abbrev main_c_39 : Ref sig .tc := ⟨.hbm, 272, rfl⟩
abbrev main_v179 : Ref sig .tc := ⟨.hbm, 273, rfl⟩
abbrev main_v180 : Ref sig .tc := ⟨.hbm, 274, rfl⟩
abbrev main_c_40 : Ref sig .tc := ⟨.hbm, 275, rfl⟩
abbrev main_v181 : Ref sig .tc := ⟨.hbm, 276, rfl⟩
abbrev main_v182 : Ref sig .tc := ⟨.hbm, 277, rfl⟩
abbrev main_v183 : Ref sig .tc := ⟨.hbm, 278, rfl⟩
abbrev main_v184 : Ref sig .tc := ⟨.hbm, 279, rfl⟩
abbrev main_v185 : Ref sig .tc := ⟨.hbm, 280, rfl⟩
abbrev main_v186 : Ref sig .tc := ⟨.hbm, 281, rfl⟩
abbrev main_v187 : Ref sig .tc := ⟨.hbm, 282, rfl⟩
abbrev main_v188 : Ref sig .tc := ⟨.hbm, 283, rfl⟩
abbrev main_v189 : Ref sig .tc := ⟨.hbm, 284, rfl⟩
abbrev main_v190 : Ref sig .tc := ⟨.hbm, 285, rfl⟩
abbrev main_v191 : Ref sig .tc := ⟨.hbm, 286, rfl⟩
abbrev main_call3_call0_cst : Ref sig .tc := ⟨.hbm, 287, rfl⟩
abbrev main_call3_call0_v0 : Ref sig .tc := ⟨.hbm, 288, rfl⟩
abbrev main_v192 : Ref sig .tc := ⟨.hbm, 289, rfl⟩
abbrev main_c_41 : Ref sig .tc := ⟨.hbm, 290, rfl⟩
abbrev main_v193 : Ref sig .tc := ⟨.hbm, 291, rfl⟩
abbrev main_v194 : Ref sig .tc := ⟨.hbm, 292, rfl⟩
abbrev main_c_42 : Ref sig .tc := ⟨.hbm, 293, rfl⟩
abbrev main_v195 : Ref sig .tc := ⟨.hbm, 294, rfl⟩
abbrev main_v196 : Ref sig .tc := ⟨.hbm, 295, rfl⟩
abbrev main_v197 : Ref sig .tc := ⟨.hbm, 296, rfl⟩
abbrev main_v198 : Ref sig .tc := ⟨.hbm, 297, rfl⟩
abbrev main_v199 : Ref sig .tc := ⟨.hbm, 298, rfl⟩
abbrev main_cst_43 : Ref sig .tc := ⟨.hbm, 299, rfl⟩
abbrev main_v200 : Ref sig .tc := ⟨.hbm, 300, rfl⟩
abbrev main_v201 : Ref sig .tc := ⟨.hbm, 301, rfl⟩
abbrev main_v202 : Ref sig .tc := ⟨.hbm, 302, rfl⟩
abbrev main_c_44 : Ref sig .tc := ⟨.hbm, 303, rfl⟩
abbrev main_v203 : Ref sig .tc := ⟨.hbm, 304, rfl⟩
abbrev main_v204 : Ref sig .tc := ⟨.hbm, 305, rfl⟩
abbrev main_c_45 : Ref sig .tc := ⟨.hbm, 306, rfl⟩
abbrev main_v205 : Ref sig .tc := ⟨.hbm, 307, rfl⟩
abbrev main_v206 : Ref sig .tc := ⟨.hbm, 308, rfl⟩
abbrev main_v207 : Ref sig .tc := ⟨.hbm, 309, rfl⟩
abbrev main_v208 : Ref sig .tc := ⟨.hbm, 310, rfl⟩
abbrev main_v209 : Ref sig .tc := ⟨.hbm, 311, rfl⟩
abbrev main_v210 : Ref sig .tc := ⟨.hbm, 312, rfl⟩
abbrev main_v211 : Ref sig .tc := ⟨.hbm, 313, rfl⟩
abbrev main_v212 : Ref sig .tc := ⟨.hbm, 314, rfl⟩
abbrev main_v213 : Ref sig .tc := ⟨.hbm, 315, rfl⟩
abbrev main_v214 : Ref sig .tc := ⟨.hbm, 316, rfl⟩
abbrev main_cst_46 : Ref sig .tc := ⟨.hbm, 317, rfl⟩
abbrev main_v215 : Ref sig .tc := ⟨.hbm, 318, rfl⟩
abbrev main_v216 : Ref sig .tc := ⟨.hbm, 319, rfl⟩
abbrev main_v217 : Ref sig .tc := ⟨.hbm, 320, rfl⟩
abbrev main_call4_cst : Ref sig .tc := ⟨.hbm, 321, rfl⟩
abbrev main_call4_v0 : Ref sig .tc := ⟨.hbm, 322, rfl⟩
abbrev main_call4_v1 : Ref sig .tc := ⟨.hbm, 323, rfl⟩
abbrev main_call4_v2 : Ref sig .tc := ⟨.hbm, 324, rfl⟩
abbrev main_call4_v3 : Ref sig .tc := ⟨.hbm, 325, rfl⟩
abbrev main_call4_v4 : Ref sig .tc := ⟨.hbm, 326, rfl⟩
abbrev main_call4_v5 : Ref sig .tc := ⟨.hbm, 327, rfl⟩
abbrev main_call4_v6 : Ref sig .tc := ⟨.hbm, 328, rfl⟩
abbrev main_call4_v7 : Ref sig .tc := ⟨.hbm, 329, rfl⟩
abbrev main_call4_v8 : Ref sig .tc := ⟨.hbm, 330, rfl⟩
abbrev main_call4_v9 : Ref sig .tc := ⟨.hbm, 331, rfl⟩
abbrev main_call4_v10 : Ref sig .tc := ⟨.hbm, 332, rfl⟩
abbrev main_call4_v11 : Ref sig .tc := ⟨.hbm, 333, rfl⟩
abbrev main_v218 : Ref sig .tc := ⟨.hbm, 334, rfl⟩
abbrev main_v219 : Ref sig .tc := ⟨.hbm, 335, rfl⟩
abbrev main_v220 : Ref sig .tc := ⟨.hbm, 336, rfl⟩
abbrev main_v221 : Ref sig .tc := ⟨.hbm, 337, rfl⟩
abbrev main_v222 : Ref sig .tc := ⟨.hbm, 338, rfl⟩
abbrev main_v223 : Ref sig .tc := ⟨.hbm, 339, rfl⟩
abbrev main_v224 : Ref sig .tc := ⟨.hbm, 340, rfl⟩
abbrev main_v225 : Ref sig .tc := ⟨.hbm, 341, rfl⟩
abbrev main_v226 : Ref sig .tc := ⟨.hbm, 342, rfl⟩
abbrev main_v227 : Ref sig .tc := ⟨.hbm, 343, rfl⟩
abbrev main_cst_47 : Ref sig .tc := ⟨.hbm, 344, rfl⟩
abbrev main_v228 : Ref sig .tc := ⟨.hbm, 345, rfl⟩
abbrev main_cst_48 : Ref sig .tc := ⟨.hbm, 346, rfl⟩
abbrev main_v229 : Ref sig .tc := ⟨.hbm, 347, rfl⟩
abbrev main_v230 : Ref sig .tc := ⟨.hbm, 348, rfl⟩
abbrev main_v231 : Ref sig .tc := ⟨.hbm, 349, rfl⟩
abbrev main_v232 : Ref sig .tc := ⟨.hbm, 350, rfl⟩
abbrev main_v233 : Ref sig .tc := ⟨.hbm, 351, rfl⟩
abbrev main_v234 : Ref sig .tc := ⟨.hbm, 352, rfl⟩
abbrev main_v235 : Ref sig .tc := ⟨.hbm, 353, rfl⟩
abbrev main_cst_49 : Ref sig .tc := ⟨.hbm, 354, rfl⟩
abbrev main_v236 : Ref sig .tc := ⟨.hbm, 355, rfl⟩
abbrev main_cst_50 : Ref sig .tc := ⟨.hbm, 356, rfl⟩
abbrev main_v237 : Ref sig .tc := ⟨.hbm, 357, rfl⟩
abbrev main_v238 : Ref sig .tc := ⟨.hbm, 358, rfl⟩
abbrev main_v239 : Ref sig .tc := ⟨.hbm, 359, rfl⟩
abbrev main_v240 : Ref sig .tc := ⟨.hbm, 360, rfl⟩
abbrev main_v241 : Ref sig .tc := ⟨.hbm, 361, rfl⟩
abbrev main_v242 : Ref sig .tc := ⟨.hbm, 362, rfl⟩
abbrev main_cst_51 : Ref sig .tc := ⟨.hbm, 363, rfl⟩
abbrev main_v243 : Ref sig .tc := ⟨.hbm, 364, rfl⟩
abbrev main_v244 : Ref sig .tc := ⟨.hbm, 365, rfl⟩
abbrev main_v245 : Ref sig .tc := ⟨.hbm, 366, rfl⟩
abbrev main_v246 : Ref sig .tc := ⟨.hbm, 367, rfl⟩
abbrev main_v247 : Ref sig .tc := ⟨.hbm, 368, rfl⟩
abbrev main_v248 : Ref sig .tc := ⟨.hbm, 369, rfl⟩
abbrev main_v249 : Ref sig .tc := ⟨.hbm, 370, rfl⟩
abbrev main_cst_52 : Ref sig .tc := ⟨.hbm, 371, rfl⟩
abbrev main_v250 : Ref sig .tc := ⟨.hbm, 372, rfl⟩
abbrev main_v251 : Ref sig .tc := ⟨.hbm, 373, rfl⟩
abbrev main_v252 : Ref sig .tc := ⟨.hbm, 374, rfl⟩
abbrev main_v253 : Ref sig .tc := ⟨.hbm, 375, rfl⟩
abbrev main_v254 : Ref sig .tc := ⟨.hbm, 376, rfl⟩
abbrev main_v255 : Ref sig .tc := ⟨.hbm, 377, rfl⟩
abbrev main_v256 : Ref sig .tc := ⟨.hbm, 378, rfl⟩
abbrev main_v257 : Ref sig .tc := ⟨.hbm, 379, rfl⟩

abbrev nD : Nat := 1
abbrev τ : Topo := Topo.v7x

variable {F : FTy → Type} [FloatOps F]
-- ==== Proof.Reg2Ops.lean ====
module

public import proofs.«01_k».proof.Proof.Gen.KernelIdeal.Frame
public import Idealize.ShloMosaic.Lib.Pipeline.ValueKit
public import Idealize.ShloMosaic.Lib.Pointwise

/-!
The third kernel region, its operations put together: one head's attention at a point of the region, first as a term of
vector operations the same for both heads of the point, then read at an index.
-/
@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen

variable (V : (c : Dev nD) → (b : Ref sig .tc) → Buf (Elt Ideal) ((c : Thread nD τ).loc b))

/-- The column slices of an array of eight columns. -/
theorem slc : ∀ p : Fin 8, S256x8.Slices ![0, p.val] S256x1 := by decide

/-- The tent of height one over each row's sampling position, at each of the window's positions. -/
def hatOp (jf : FVec Ideal S1x512 .f32) (sp : FVec Ideal S256x8 .f32) (p : Fin 8) : FVec Ideal S256x512 .f32 :=
  maximumf (subf (broadcast S256x512 (Scalar.ofBits .f32 0x3F800000#32))
    (absf (subf (broadcastTo S256x512 jf broadcasts_S1x512_S256x512)
      (broadcastTo S256x512 (extractStridedSlice S256x1 ![0, p.val] sp (slc p)) broadcasts_S256x1_S256x512))))
    (broadcast S256x512 (Scalar.ofBits .f32 0x00000000#32))

/-- The weighted sum of a row over the window: the four quarters added lane by lane, then the lanes. -/
def colOp (m d : FVec Ideal S256x512 .f32) : FVec Ideal S256x1 .f32 :=
  shapeCast S256x1 (multiReduction .add [1] S256 (addf (addf (addf
    (extractStridedSlice S256x128 ![0, 0] (mulf m d) slices_S256x512_o0_0_S256x128)
    (extractStridedSlice S256x128 ![0, 128] (mulf m d) slices_S256x512_o0_128_S256x128))
    (extractStridedSlice S256x128 ![0, 256] (mulf m d) slices_S256x512_o0_256_S256x128))
    (extractStridedSlice S256x128 ![0, 384] (mulf m d) slices_S256x512_o0_384_S256x128))
    0x00000000#32 reduces_S256x128_S256 (.inl rfl) rfl) shapeCasts_S256_S256x1

/-- Eight columns side by side. -/
def cat8 (f : Fin 8 → FVec Ideal S256x1 .f32) : FVec Ideal S256x8 .f32 :=
  concatenate S256x8 1 [⟨S256x1, f 0⟩, ⟨S256x1, f 1⟩, ⟨S256x1, f 2⟩, ⟨S256x1, f 3⟩, ⟨S256x1, f 4⟩, ⟨S256x1, f 5⟩,
    ⟨S256x1, f 6⟩, ⟨S256x1, f 7⟩] concatenates_S256x1_S256x1_S256x1_S256x1_S256x1_S256x1_S256x1_S256x1_S256x8_d1

/-- The logits of a row's eight sampling points. -/
def lgOp (qk ps sel : FVec Ideal S256x8 .f32) (elq : FVec Ideal S256x1 .f32) (cb dc : FVec Ideal S1x1x8 .f32) :
    FVec Ideal S256x8 .f32 :=
  subf (addf (addf qk ps) (broadcastTo S256x8 (shapeCast S1x8 cb shapeCasts_S1x1x8_S1x8) broadcasts_S1x8_S256x8))
    (mulf (broadcastTo S256x8 (shapeCast S1x8 dc shapeCasts_S1x1x8_S1x8) broadcasts_S1x8_S256x8)
      (log1p (maximumf (subf (broadcastTo S256x8 elq broadcasts_S256x1_S256x8) sel)
        (broadcast S256x8 (Scalar.ofBits .f32 0x00000000#32)))))

/-- The exponentials of the logits less their row's greatest. -/
def exOp (lg : FVec Ideal S256x8 .f32) : FVec Ideal S256x8 .f32 :=
  exp (subf lg (broadcastTo S256x8 (shapeCast S256x1
    (multiReduction .maximumf [1] S256 lg 0xFF800000#32 reduces_S256x8_S256 (.inl rfl) rfl) shapeCasts_S256_S256x1)
    broadcasts_S256x1_S256x8))

/-- Each exponential over its row's sum. -/
def wtOp (ex : FVec Ideal S256x8 .f32) : FVec Ideal S256x8 .f32 :=
  divf ex (broadcastTo S256x8 (shapeCast S256x1
    (multiReduction .add [1] S256 ex 0x00000000#32 reduces_S256x8_S256 (.inl rfl) rfl) shapeCasts_S256_S256x1)
    broadcasts_S256x1_S256x8)

/-- One sampling point's weight times its tent. -/
def wmOp (w : FVec Ideal S256x8 .f32) (m : Fin 8 → FVec Ideal S256x512 .f32) (p : Fin 8) : FVec Ideal S256x512 .f32 :=
  mulf (broadcastTo S256x512 (extractStridedSlice S256x1 ![0, p.val] w (slc p)) broadcasts_S256x1_S256x512) (m p)

/-- The weights of the window's positions: the weighted tents' sum. -/
def aOp (w : FVec Ideal S256x8 .f32) (m : Fin 8 → FVec Ideal S256x512 .f32) : FVec Ideal S256x512 .f32 :=
  addf (addf (addf (addf (addf (addf (addf (wmOp w m 0) (wmOp w m 1)) (wmOp w m 2)) (wmOp w m 3)) (wmOp w m 4)) (wmOp w m 5))
    (wmOp w m 6)) (wmOp w m 7)

/-- One head: from the point's queries, its window of keys and values, the head's lanes, the rows' and the window's
    positions, the elapsed times, offsets, anchors, point scores and the two rows of coefficients. -/
def headOp (q : FVec Ideal S256x128 .f32) (kw vw : FVec Ideal S512x128 .f32) (mk : FVec Ideal S1x128 .f32)
    (qp : FVec Ideal S256x1 .f32) (jf : FVec Ideal S1x512 .f32) (elw : FVec Ideal S1x512 .f32) (elq : FVec Ideal S256x1 .f32)
    (off : FVec Ideal S1x256x8 .f32) (an : FVec Ideal S1x8 .f32) (ps : FVec Ideal S1x256x8 .f32)
    (cb dc : FVec Ideal S1x1x8 .f32) : FVec Ideal S256x128 .f32 :=
  k2_pay41 vw mk (aOp (wtOp (exOp (lgOp
      (cat8 fun p => colOp (hatOp jf (k2_pay44 qp off an) p) (k2_pay22 q kw mk))
      (k2_pay43 ps)
      (cat8 fun p => colOp (hatOp jf (k2_pay44 qp off an) p) (broadcastTo S256x512 elw broadcasts_S1x512_S256x512))
      elq cb dc))) (hatOp jf (k2_pay44 qp off an)))

/-- What a point of the third region stores: its two heads, added. -/
theorem outs2 (c : Dev nD) (t : Fin cfg2.N) : outsAt2 V c t = addf
    (headOp (k2_pay2 (iblk2 V c 0 t))
      (k2_pay3 (View.ld (iblk2 V c 1 t) (Rect.unit (s := S2048x128) (k2_off1 (grid2.coords t)) S512x128.size (k2_off1_inb (grid2.coords t)))))
      (k2_pay4 (View.ld (iblk2 V c 2 t) (Rect.unit (s := S2048x128) (k2_off1 (grid2.coords t)) S512x128.size (k2_off1_inb (grid2.coords t)))))
      k2_pay9 (k2_pay5 (grid2.coords t)) (k2_pay6 (grid2.coords t)) (k2_pay7 (iblk2 V c 5 t)) (k2_pay8 (iblk2 V c 6 t))
      (View.ld (iblk2 V c 3 t) (Rect.unit (s := S2x256x8) ![0, 0, 0] S1x256x8.size inb_S2x256x8_S1x256x8_0_0_0))
      (iblk2 V c 7 t)
      (View.ld (iblk2 V c 4 t) (Rect.unit (s := S2x256x8) ![0, 0, 0] S1x256x8.size inb_S2x256x8_S1x256x8_0_0_0))
      (View.ld (iblk2 V c 9 t) (Rect.unit (s := S2x1x8) ![0, 0, 0] S1x1x8.size inb_S2x1x8_S1x1x8_0_0_0))
      (View.ld (iblk2 V c 8 t) (Rect.unit (s := S2x1x8) ![0, 0, 0] S1x1x8.size inb_S2x1x8_S1x1x8_0_0_0)))
    (headOp (k2_pay2 (iblk2 V c 0 t))
      (k2_pay3 (View.ld (iblk2 V c 1 t) (Rect.unit (s := S2048x128) (k2_off1 (grid2.coords t)) S512x128.size (k2_off1_inb (grid2.coords t)))))
      (k2_pay4 (View.ld (iblk2 V c 2 t) (Rect.unit (s := S2048x128) (k2_off1 (grid2.coords t)) S512x128.size (k2_off1_inb (grid2.coords t)))))
      (k2_pay42 (iota Kind.tc S1x128 32 [1] iota_S1x128_d1_w32))
      (k2_pay5 (grid2.coords t)) (k2_pay6 (grid2.coords t)) (k2_pay7 (iblk2 V c 5 t)) (k2_pay8 (iblk2 V c 6 t))
      (View.ld (iblk2 V c 3 t) (Rect.unit (s := S2x256x8) ![1, 0, 0] S1x256x8.size inb_S2x256x8_S1x256x8_1_0_0))
      (iblk2 V c 7 t)
      (View.ld (iblk2 V c 4 t) (Rect.unit (s := S2x256x8) ![1, 0, 0] S1x256x8.size inb_S2x256x8_S1x256x8_1_0_0))
      (View.ld (iblk2 V c 9 t) (Rect.unit (s := S2x1x8) ![1, 0, 0] S1x1x8.size inb_S2x1x8_S1x1x8_1_0_0))
      (View.ld (iblk2 V c 8 t) (Rect.unit (s := S2x1x8) ![1, 0, 0] S1x1x8.size inb_S2x1x8_S1x1x8_1_0_0))) := by
  funext y
  unfold outsAt2 out2_A_10
  frame_out
  rfl

end Cert.KernelIdeal.Val
-- ==== Proof.RealMath.lean ====
module

public import Mathlib.Analysis.SpecialFunctions.Pow.Real
public import Mathlib.Data.EReal.Operations
public import Mathlib.Algebra.BigOperators.Fin

/-!
Facts about real numbers the proof rests on: a sum weighted by the hat function `max (1 - |j - s|) 0` is the linear
interpolation between the two neighbours of `s`, and a telescoping sum of table differences is a table entry.
-/

@[expose] public section

namespace Cert.Math

/-- The weight of position `j` in the linear interpolation at `s`. -/
noncomputable def hat (s : ℝ) (j : ℕ) : ℝ := max (1 - |(j : ℝ) - s|) 0

/-- The fractional part of a position that is not negative. -/
noncomputable def frac (s : ℝ) : ℝ := s - (⌊s⌋₊ : ℝ)

/-- The hat function at a natural number: the left neighbour has weight `1 - frac s`, the right one `frac s`, every other
    position `0`. -/
theorem hat_eq (s : ℝ) (hs : 0 ≤ s) (j : ℕ) :
    hat s j = (if j = ⌊s⌋₊ then 1 - frac s else 0) + (if j = ⌊s⌋₊ + 1 then frac s else 0) := by
  have h1 : (⌊s⌋₊ : ℝ) ≤ s := Nat.floor_le hs
  have h2 : s < ⌊s⌋₊ + 1 := Nat.lt_floor_add_one s
  unfold hat frac
  generalize ⌊s⌋₊ = l at *
  rcases lt_trichotomy j l with h | h | h
  · have h3 : (j : ℝ) + 1 ≤ l := by exact_mod_cast h
    rw [if_neg (by omega), if_neg (by omega), abs_of_nonpos (by linarith), max_eq_right (by linarith)]; simp
  · subst h
    rw [if_pos rfl, if_neg (by omega), abs_of_nonpos (by linarith), max_eq_left (by linarith)]; ring
  · by_cases h4 : j = l + 1
    · subst h4
      rw [if_neg (by omega), if_pos rfl]
      push_cast
      rw [abs_of_nonneg (by linarith), max_eq_left (by linarith)]; ring
    · have h3 : (l : ℝ) + 2 ≤ j := by exact_mod_cast (by omega : l + 2 ≤ j)
      rw [if_neg (by omega), if_neg h4, abs_of_nonneg (by linarith), max_eq_right (by linarith)]; simp

/-- A hat-weighted sum over a window of `n` positions from `st` on that holds the position `s` is the linear interpolation
    between its two neighbours; the right neighbour may be capped at `top`, when `s` does not exceed it. -/
theorem hat_sum (n st top : ℕ) (g : ℕ → ℝ) (s : ℝ) (h0 : (st : ℝ) ≤ s) (h1 : s + 1 ≤ st + n) (h2 : s ≤ top) :
    ∑ j : Fin n, hat s (st + j) * g (st + j)
      = g ⌊s⌋₊ * (1 - frac s) + g (min (⌊s⌋₊ + 1) top) * frac s := by
  have hs : 0 ≤ s := le_trans (Nat.cast_nonneg _) h0
  have hl : st ≤ ⌊s⌋₊ := Nat.le_floor h0
  have hf : (⌊s⌋₊ : ℝ) ≤ s := Nat.floor_le hs
  have hn : ⌊s⌋₊ + 1 ≤ st + n := by exact_mod_cast (by linarith : ((⌊s⌋₊ : ℝ) + 1) ≤ st + n)
  have hr : g (min (⌊s⌋₊ + 1) top) * frac s = g (⌊s⌋₊ + 1) * frac s := by
    by_cases h : ⌊s⌋₊ + 1 ≤ top
    · rw [min_eq_left h]
    · have : (top : ℝ) ≤ ⌊s⌋₊ := by exact_mod_cast (by omega : top ≤ ⌊s⌋₊)
      rw [show frac s = 0 by unfold frac; linarith]; simp
  rw [hr]
  simp only [hat_eq s hs, add_mul, Finset.sum_add_distrib]
  congr 1
  · rw [Finset.sum_eq_single (⟨⌊s⌋₊ - st, by omega⟩ : Fin n)]
    · have e : st + (⌊s⌋₊ - st) = ⌊s⌋₊ := by omega
      simp only [e, if_true]; ring
    · intro b _ hb
      rw [if_neg, zero_mul]
      intro h; apply hb; ext; simp only; omega
    · simp
  · by_cases hlt : ⌊s⌋₊ + 1 < st + n
    · rw [Finset.sum_eq_single (⟨⌊s⌋₊ + 1 - st, by omega⟩ : Fin n)]
      · have e : st + (⌊s⌋₊ + 1 - st) = ⌊s⌋₊ + 1 := by omega
        simp only [e, if_true]; ring
      · intro b _ hb
        rw [if_neg, zero_mul]
        intro h; apply hb; ext; simp only; omega
      · simp
    · have e : ((⌊s⌋₊ + 1 : ℕ) : ℝ) = ((st + n : ℕ) : ℝ) := by exact_mod_cast (by omega : ⌊s⌋₊ + 1 = st + n)
      push_cast at e
      have hz : frac s = 0 := by unfold frac; linarith
      simp [hz]

/-- Differences of a table summed over the conditions that hold, when they hold for a first part of the list, are the
    table at the number of conditions that hold, less its entry at `0`. -/
theorem tel (e : ℕ → ℝ) (p : ℕ → Prop) [DecidablePred p] (hp : ∀ j, p (j + 1) → p j) (n : ℕ) :
    ∑ j ∈ Finset.range n, (if p j then (1 : ℝ) else 0) * (e (j + 1) - e j)
      = e (∑ j ∈ Finset.range n, if p j then 1 else 0) - e 0 := by
  have hall : ∀ j, p j → ∀ i ≤ j, p i := by
    intro j
    induction j with
    | zero => intro h i hi; obtain rfl : i = 0 := by omega
              exact h
    | succ k ih => intro h i hi
                   rcases Nat.lt_or_ge i (k + 1) with h' | h'
                   · exact ih (hp k h) i (by omega)
                   · obtain rfl : i = k + 1 := by omega
                     exact h
  induction n with
  | zero => simp
  | succ n ih =>
    rw [Finset.sum_range_succ, Finset.sum_range_succ, ih]
    by_cases h : p n
    · have : ∑ j ∈ Finset.range n, (if p j then 1 else 0) = n := by
        rw [Finset.sum_congr rfl fun j hj => if_pos (hall n h j (by rw [Finset.mem_range] at hj; omega))]; simp
      rw [if_pos h, if_pos h, this]; ring
    · rw [if_neg h, if_neg h]; simp

/-- The sum of a family over `512` positions, folded into `128` lanes of four. -/
theorem sum_fold4 {M : Type*} [AddCommMonoid M] (f : Fin 512 → M) :
    ∑ l : Fin 128, (f ⟨l, by omega⟩ + f ⟨128 + l, by omega⟩ + f ⟨256 + l, by omega⟩ + f ⟨384 + l, by omega⟩)
      = ∑ j : Fin 512, f j := by
  have : ∑ j : Fin 512, f j = ∑ q : Fin 4 × Fin 128, f (finProdFinEquiv q) :=
    (Equiv.sum_comp (finProdFinEquiv (m := 4) (n := 128)) f).symm
  rw [this, Fintype.sum_prod_type, Fin.sum_univ_four]
  simp only [Finset.sum_add_distrib]
  congr 1

/-- A sum over `128` lanes of a family that is zero outside the half `h` is the sum over the half's `64` lanes. -/
theorem sum_half {M : Type*} [AddCommMonoid M] (f : Fin 128 → M) (h : Fin 2)
    (hz : ∀ l : Fin 128, ¬ (64 * (h : ℕ) ≤ l ∧ (l : ℕ) < 64 * (h + 1)) → f l = 0) :
    ∑ l : Fin 128, f l = ∑ e : Fin 64, f ⟨64 * h + e, by omega⟩ := by
  have : ∑ j : Fin 128, f j = ∑ q : Fin 2 × Fin 64, f (finProdFinEquiv q) :=
    (Equiv.sum_comp (finProdFinEquiv (m := 2) (n := 64)) f).symm
  rw [this, Fintype.sum_prod_type, Finset.sum_eq_single h]
  · refine Finset.sum_congr rfl fun l _ => congrArg f (Fin.ext ?_)
    simp [finProdFinEquiv]; omega
  · intro b _ hb
    refine Finset.sum_eq_zero fun l _ => hz _ ?_
    have : (b : ℕ) ≠ h := fun e => hb (Fin.ext e)
    simp [finProdFinEquiv]; omega
  · simp

end Cert.Math
-- ==== Proof.Reg2.lean ====
module

public import proofs.«01_k».proof.Proof.Gen.KernelIdeal.Frame
public import Idealize.ShloMosaic.Lib.Pipeline.ValueKit
public import Idealize.ShloMosaic.Lib.Pointwise
public import proofs.«01_k».proof.Proof.Reg2Ops
public import proofs.«01_k».proof.Proof.RealMath

/-!
One head's attention at a point of the third region, read at an index: the value of one row and lane from the row's
inputs.
-/
@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen

variable (V : (c : Dev nD) → (b : Ref sig .tc) → Buf (Elt Ideal) ((c : Thread nD τ).loc b))

/-- The absolute value as the larger of a number and its negative. -/
def absE (x : EReal) : EReal := max x (-x)

/-- A row's sampling position from its own position, the offset and the anchor. -/
def spE (qp off an : EReal) : EReal :=
  min (max (qp - an + off * Ideal.ofBits FTy.f32 1090519040#32) 0) qp

/-- The tent over `s` at `x`. -/
def hatE (x s : EReal) : EReal := max (1 - absE (x - s)) 0

/-- The weights of eight logits: each exponential of a logit less the greatest, over their sum. -/
def smx (lg : Fin 8 → EReal) (p : Fin 8) : EReal :=
  Ideal.div (Ideal.exp (lg p - Finset.fold max (Ideal.ofBits FTy.f32 4286578688#32) lg Finset.univ))
    (∑ x, Ideal.exp (lg x - Finset.fold max (Ideal.ofBits FTy.f32 4286578688#32) lg Finset.univ))

/-- The logit of one sampling point, of the products of queries and keys `d`, the tent `m` and the elapsed times. -/
def lgE (d : Fin 512 → EReal) (m : Fin 512 → EReal) (el : Fin 512 → EReal) (elq ps cb dc : EReal) : EReal :=
  (∑ j, m j * d j) + ps + cb - dc * Ideal.log1p (max (elq - ∑ j, m j * el j) 0)

/-- One row's attention in one head at one lane. -/
def rowOut (Q : Fin 128 → EReal) (K U : Fin 512 → Fin 128 → EReal) (M : Fin 128 → EReal) (qp : EReal)
    (jf el : Fin 512 → EReal) (elq : EReal) (off an ps cb dc : Fin 8 → EReal) (l : Fin 128) : EReal :=
  ∑ j, (∑ p, smx (fun p => lgE (fun j => ∑ x, Q x * (K j x * M x)) (fun j => hatE (jf j) (spE qp (off p) (an p))) el elq (ps p)
    (cb p) (dc p)) p * hatE (jf j) (spE qp (off p) (an p))) * (U j l * M l)

/-- The tent at an index. -/
theorem hatOp_apply (jf : FVec Ideal S1x512 .f32) (sp : FVec Ideal S256x8 .f32) (p : Fin 8) (r : Fin 256) (j : Fin 512) :
    hatOp jf sp p (ix2 r j) = hatE (jf (ix2 0 j)) (sp (ix2 r p)) := by
  fin_vals p with hk
  all_goals pointwise [hatOp, hatE, absE]
  all_goals rfl

/-- The windowed sum at an index. -/
theorem colOp_apply (m d : FVec Ideal S256x512 .f32) (r : Fin 256) :
    colOp m d (ix2 r 0) = ∑ j : Fin 512, m (ix2 r j) * d (ix2 r j) := by
  rw [← Cert.Math.sum_fold4]
  pointwise [colOp]

/-- The eight columns at an index. -/
theorem cat8_apply (f : Fin 8 → FVec Ideal S256x1 .f32) (r : Fin 256) (p : Fin 8) :
    cat8 f (ix2 r p) = f p (ix2 r 0) := by
  obtain ⟨p, hp⟩ := p
  pointwise [cat8]
  interval_cases p <;> rfl

/-- The logits at an index. -/
theorem lgOp_apply (qk ps sel : FVec Ideal S256x8 .f32) (elq : FVec Ideal S256x1 .f32) (cb dc : FVec Ideal S1x1x8 .f32)
    (r : Fin 256) (p : Fin 8) : lgOp qk ps sel elq cb dc (ix2 r p) = qk (ix2 r p) + ps (ix2 r p) + cb (ix3 0 0 p)
      - dc (ix3 0 0 p) * Ideal.log1p (max (elq (ix2 r 0) - sel (ix2 r p)) 0) := by
  pointwise [lgOp]

/-- The weights at an index. -/
theorem wt_apply (lg : FVec Ideal S256x8 .f32) (r : Fin 256) (p : Fin 8) :
    wtOp (exOp lg) (ix2 r p) = smx (fun p => lg (ix2 r p)) p := by
  pointwise [wtOp, exOp, smx]

/-- A weighted tent at an index. -/
theorem wmOp_apply (w : FVec Ideal S256x8 .f32) (m : Fin 8 → FVec Ideal S256x512 .f32) (p : Fin 8) (r : Fin 256)
    (j : Fin 512) : wmOp w m p (ix2 r j) = w (ix2 r p) * m p (ix2 r j) := by
  fin_vals p with hk
  all_goals pointwise [wmOp]

/-- The weighted tents' sum at an index. -/
theorem aOp_apply (w : FVec Ideal S256x8 .f32) (m : Fin 8 → FVec Ideal S256x512 .f32) (r : Fin 256) (j : Fin 512) :
    aOp w m (ix2 r j) = ∑ p, w (ix2 r p) * m p (ix2 r j) := by
  rw [Fin.sum_univ_eight]
  simp only [← wmOp_apply]
  rfl

/-- The windowed values' sum at an index. -/
theorem o_apply (vw : FVec Ideal S512x128 .f32) (mk : FVec Ideal S1x128 .f32) (a : FVec Ideal S256x512 .f32) (r : Fin 256)
    (l : Fin 128) : k2_pay41 vw mk a (ix2 r l) = ∑ j, a (ix2 r j) * (vw (ix2 j l) * mk (ix2 0 l)) := by
  pointwise [k2_pay41]

/-- The products of queries and keys at an index. -/
theorem q_apply (q : FVec Ideal S256x128 .f32) (kw : FVec Ideal S512x128 .f32) (mk : FVec Ideal S1x128 .f32) (r : Fin 256)
    (j : Fin 512) : k2_pay22 q kw mk (ix2 r j) = ∑ x, q (ix2 r x) * (kw (ix2 j x) * mk (ix2 0 x)) := by
  pointwise [k2_pay22]

/-- The sampling positions at an index. -/
theorem s_apply (qp : FVec Ideal S256x1 .f32) (off : FVec Ideal S1x256x8 .f32) (an : FVec Ideal S1x8 .f32) (r : Fin 256)
    (p : Fin 8) : k2_pay44 qp off an (ix2 r p) = spE (qp (ix2 r 0)) (off (ix3 0 r p)) (an (ix2 0 p)) := by
  pointwise [k2_pay44, spE]

/-- One head's value at an index, from the row's inputs. -/
theorem head_apply (q : FVec Ideal S256x128 .f32) (kw vw : FVec Ideal S512x128 .f32) (mk : FVec Ideal S1x128 .f32)
    (qp : FVec Ideal S256x1 .f32) (jf : FVec Ideal S1x512 .f32) (elw : FVec Ideal S1x512 .f32) (elq : FVec Ideal S256x1 .f32)
    (off : FVec Ideal S1x256x8 .f32) (an : FVec Ideal S1x8 .f32) (ps : FVec Ideal S1x256x8 .f32)
    (cb dc : FVec Ideal S1x1x8 .f32) (r : Fin 256) (l : Fin 128) :
    headOp q kw vw mk qp jf elw elq off an ps cb dc (ix2 r l) = rowOut (fun x => q (ix2 r x)) (fun j x => kw (ix2 j x))
      (fun j x => vw (ix2 j x)) (fun x => mk (ix2 0 x)) (qp (ix2 r 0)) (fun j => jf (ix2 0 j)) (fun j => elw (ix2 0 j))
      (elq (ix2 r 0)) (fun p => off (ix3 0 r p)) (fun p => an (ix2 0 p)) (fun p => ps (ix3 0 r p)) (fun p => cb (ix3 0 0 p))
      (fun p => dc (ix3 0 0 p)) l := by
  have hps : ∀ p, k2_pay43 ps (ix2 r p) = ps (ix3 0 r p) := fun p => by pointwise [k2_pay43]
  have hb : ∀ j, broadcastTo S256x512 elw broadcasts_S1x512_S256x512 (ix2 r j) = elw (ix2 0 j) := fun j => by
    pointwise
  simp only [headOp, o_apply, aOp_apply, wt_apply, lgOp_apply, cat8_apply, colOp_apply, hatOp_apply, s_apply, q_apply, hps,
    hb, rowOut, lgE]

end Cert.KernelIdeal.Val
-- ==== Proof.Reg2Final.lean ====
module

public import proofs.«01_k».proof.Proof.Gen.KernelIdeal.Frame
public import Idealize.ShloMosaic.Lib.Pipeline.ValueKit
public import Idealize.ShloMosaic.Lib.Pointwise
public import proofs.«01_k».proof.Proof.Reg2

/-!
The third region's result array: at every index the two heads' values of the row, from the arrays the region reads.
-/
@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen

variable (V : (c : Dev nD) → (b : Ref sig .tc) → Buf (Elt Ideal) ((c : Thread nD τ).loc b))

/-- The first position of the window of a block of 256 rows. -/
def winStart (b : Nat) : Nat := min 1536 (256 * b - 144)

/-- A window's positions are rows. -/
theorem winStart_lt (b : Nat) (j : Fin 512) : winStart b + j < 2048 := by
  have := j.isLt; unfold winStart; omega

/-- A lane of a pair in a part is a column of the projected array. -/
theorem col_lt (o : Fin 4) (g : Fin 8) (x : Fin 128) : 1024 * (o : Nat) + 128 * (g : Nat) + x < 4096 := by omega

/-- A pair's head is a head. -/
theorem two_lt (g : Fin 8) (h : Fin 2) : 2 * (g : Nat) + h < 16 := by omega

/-- A window's position in the array of rows. -/
def wi (b : Fin 8) (j : Fin 512) : Fin 2048 := ⟨winStart b + j, winStart_lt b j⟩

/-- The column of the lane `x` of the pair of heads `g` in the part `o` of the projected array. -/
def pcol (o : Fin 4) (g : Fin 8) (x : Fin 128) : Fin 4096 := ⟨1024 * (o : Nat) + 128 * (g : Nat) + x, col_lt o g x⟩

/-- The head `h` of the pair `g`. -/
def hd (g : Fin 8) (h : Fin 2) : Fin 16 := ⟨2 * (g : Nat) + h, two_lt g h⟩

/-- A number as a value. -/
def natE (n : Nat) : EReal := ((n : ℝ) : EReal)

/-- A query's scaling. -/
def scl (x : EReal) : EReal := x * Ideal.ofBits FTy.f32 1040187392#32

/-- The lanes of the head `h` of a pair. -/
def mkE (h : Fin 2) (l : Fin 128) : EReal := if 64 * (h : Nat) ≤ l ∧ (l : Nat) < 64 * (h + 1) then 1 else 0

/-- The head `h` of the pair `g` at the row `s` of the block `b` and the lane `l`. -/
def headAt (A : FVec Ideal S2048x4096 .f32) (off ps : FVec Ideal S16x2048x8 .f32) (elw : FVec Ideal S8x1x512 .f32)
    (elq : FVec Ideal S2048x1 .f32) (an : FVec Ideal S1x8 .f32) (dc cb : FVec Ideal S16x1x8 .f32)
    (b : Fin 8) (s : Fin 2048) (g : Fin 8) (l : Fin 128) (h : Fin 2) : EReal :=
  rowOut (fun x => scl (A (ix2 s (pcol 0 g x))))
    (fun j x => A (ix2 (wi b j) (pcol 1 g x))) (fun j x => A (ix2 (wi b j) (pcol 2 g x))) (mkE h) (natE s)
    (fun j => natE (winStart b + j)) (fun j => elw (ix3 b 0 j)) (elq (ix2 s 0)) (fun p => off (ix3 (hd g h) s p))
    (fun p => an (ix2 0 p)) (fun p => ps (ix3 (hd g h) s p)) (fun p => cb (ix3 (hd g h) 0 p))
    (fun p => dc (ix3 (hd g h) 0 p)) l

/-- The third region's result. -/
def att (A : FVec Ideal S2048x4096 .f32) (off ps : FVec Ideal S16x2048x8 .f32) (elw : FVec Ideal S8x1x512 .f32)
    (elq : FVec Ideal S2048x1 .f32) (an : FVec Ideal S1x8 .f32) (dc cb : FVec Ideal S16x1x8 .f32) :
    FVec Ideal S2048x1024 .f32 := fun i =>
  headAt A off ps elw elq an dc cb ⟨(i 0 : Nat) / 256, Nat.div_lt_of_lt_mul (i 0).isLt⟩ (i 0)
      ⟨(i 1 : Nat) / 128, Nat.div_lt_of_lt_mul (i 1).isLt⟩ ⟨(i 1 : Nat) % 128, Nat.mod_lt _ (by decide)⟩ 0
    + headAt A off ps elw elq an dc cb ⟨(i 0 : Nat) / 256, Nat.div_lt_of_lt_mul (i 0).isLt⟩ (i 0)
      ⟨(i 1 : Nat) / 128, Nat.div_lt_of_lt_mul (i 1).isLt⟩ ⟨(i 1 : Nat) % 128, Nat.mod_lt _ (by decide)⟩ 1

/-- The windows' positions in the third region's arrays. -/
theorem idx2 : ∀ t : Fin cfg2.N, win2_0.index t = ![(grid2.coords t 1).val, (grid2.coords t 0).val]
    ∧ win2_1.index t = ![0, 8 + (grid2.coords t 0).val] ∧ win2_2.index t = ![0, 16 + (grid2.coords t 0).val]
    ∧ win2_3.index t = ![(grid2.coords t 0).val, (grid2.coords t 1).val, 0]
    ∧ win2_4.index t = ![(grid2.coords t 0).val, (grid2.coords t 1).val, 0]
    ∧ win2_5.index t = ![(grid2.coords t 1).val, 0, 0] ∧ win2_6.index t = ![(grid2.coords t 1).val, 0]
    ∧ win2_7.index t = ![0, 0] ∧ win2_8.index t = ![(grid2.coords t 0).val, 0, 0]
    ∧ win2_9.index t = ![(grid2.coords t 0).val, 0, 0]
    ∧ win2_10.index t = ![(grid2.coords t 1).val, (grid2.coords t 0).val] :=
  (by decide +kernel : ∀ t : Fin grid2.N, _)

/-- The window's first position as the region computes it. -/
theorem off1_word : ∀ b : Fin 8, Scalar.minsi (1536#32) (Scalar.maxsi (0#32)
    (Scalar.subi (Scalar.muli (BitVec.ofNat 32 b.val) 256#32) 144#32)) = BitVec.ofNat 32 (winStart b.val) := by
  decide

/-- A word below two to the thirty-one as a value. -/
theorem sito (n : Nat) (h : n < 2147483648) : FloatOps.sitofp (F := Ideal) FTy.f32 (BitVec.ofNat 32 n) = natE n := by
  show (((BitVec.ofNat 32 n).toInt : ℝ) : EReal) = ((n : ℝ) : EReal)
  have : (BitVec.ofNat 32 n).toInt = (n : ℤ) := by
    rw [BitVec.toInt_eq_toNat_of_lt] <;> simp <;> omega
  rw [this]; norm_cast

/-- The rows' positions at an index. -/
theorem qp_apply (i : grid2.Coords) (r : Fin 256) : k2_pay5 (F := Ideal) i (ix2 r 0) = natE (256 * (i 1).val + r) := by
  have h1 : (i 1).val < 8 := (i 1).isLt
  have : IntOp.addi (Scalar.muli (BitVec.ofNat 32 (i 1).val) 256#32) (BitVec.ofNat 32 r)
      = BitVec.ofNat 32 (256 * (i 1).val + r) := by
    show BitVec.ofNat 32 (i 1).val * BitVec.ofNat 32 256 + BitVec.ofNat 32 r = _
    rw [← BitVec.ofNat_mul, ← BitVec.ofNat_add, Nat.mul_comm]
  rw [← sito _ (by omega), ← this]
  pointwise [k2_pay5]

/-- The window's positions at an index. -/
theorem jf_apply (i : grid2.Coords) (j : Fin 512) : k2_pay6 (F := Ideal) i (ix2 0 j) = natE (winStart (i 1).val + j) := by
  have h1 : winStart (i 1).val ≤ 1536 := min_le_left _ _
  have : IntOp.addi (BitVec.ofNat 32 (winStart (i 1).val)) (BitVec.ofNat 32 j)
      = BitVec.ofNat 32 (winStart (i 1).val + j) := by
    show BitVec.ofNat 32 _ + BitVec.ofNat 32 _ = _
    rw [← BitVec.ofNat_add]
  rw [← sito _ (by omega), ← this, ← off1_word (i 1)]
  pointwise [k2_pay6]

/-- The window's first row as an offset. -/
theorem off1 : ∀ i : grid2.Coords, k2_off1 i = ![winStart (i 1).val, 0] := by
  intro i
  have : ∀ b : Fin 8, (Scalar.minsi (1536#32) (Scalar.maxsi (0#32)
    (Scalar.subi (Scalar.muli (BitVec.ofNat 32 b.val) 256#32) 144#32))).toNat = winStart b.val := by decide
  exact congrArg (fun n => ![n, 0]) (this (i 1))

/-- The lanes of the first head. -/
theorem mk0_apply (l : Fin 128) : k2_pay9 (F := Ideal) (ix2 0 l) = mkE 0 l := by
  have : ∀ l : Fin 128, BitVec.setWidth 32 (IntOp.andi (IntOp.cmpi CmpIPredicate.sge (BitVec.ofNat 32 l.val) 0#32)
          (IntOp.cmpi CmpIPredicate.slt (BitVec.ofNat 32 l.val) 64#32))
      = BitVec.ofNat 32 (if 64 * ((0 : Fin 2) : Nat) ≤ l ∧ (l : Nat) < 64 * (((0 : Fin 2) : Nat) + 1) then 1 else 0) := by decide
  have h2 : mkE 0 l = natE (if 64 * ((0 : Fin 2) : Nat) ≤ l ∧ (l : Nat) < 64 * (((0 : Fin 2) : Nat) + 1) then 1 else 0) := by
    unfold mkE natE; split_ifs <;> simp
  rw [h2, ← sito _ (by split_ifs <;> omega), ← this]
  pointwise [k2_pay9]

/-- The lanes of the second head. -/
theorem mk1_apply (l : Fin 128) : k2_pay42 (F := Ideal) (iota Kind.tc S1x128 32 [1] iota_S1x128_d1_w32) (ix2 0 l) = mkE 1 l := by
  have : ∀ l : Fin 128, BitVec.setWidth 32 (IntOp.andi (IntOp.cmpi CmpIPredicate.sge (BitVec.ofNat 32 l.val) 64#32)
          (IntOp.cmpi CmpIPredicate.slt (BitVec.ofNat 32 l.val) 128#32))
      = BitVec.ofNat 32 (if 64 * ((1 : Fin 2) : Nat) ≤ l ∧ (l : Nat) < 64 * (((1 : Fin 2) : Nat) + 1) then 1 else 0) := by decide
  have h2 : mkE 1 l = natE (if 64 * ((1 : Fin 2) : Nat) ≤ l ∧ (l : Nat) < 64 * (((1 : Fin 2) : Nat) + 1) then 1 else 0) := by
    unfold mkE natE; split_ifs <;> simp
  rw [h2, ← sito _ (by split_ifs <;> omega), ← this]
  pointwise [k2_pay42]

/-- A row of the window of keys or values. -/
theorem ld_apply (x : Vec Ideal S2048x128 .f32) (i : grid2.Coords) (b : Fin 8) (hb : (i 1).val = b) (r : Fin 512) (l : Fin 128) :
    View.ld x (Rect.unit (s := S2048x128) (k2_off1 i) S512x128.size (k2_off1_inb i)) (ix2 r l) = x (ix2 (wi b r) l) := by
  pointwise [wi]
  congr 2 <;> (apply Fin.ext; simp [off1 i, hb])

/-- The blocks the region reads at a point, at the places they have in the arrays. -/
theorem reads2 (c : Dev nD) (t : Fin cfg2.N) (b g : Fin 8) (hb : (grid2.coords t 1).val = b) (hg : (grid2.coords t 0).val = g)
    (r : Fin 256) (s : Fin 2048) (hs : s.val = 256 * b.val + r) :
    (∀ x, iblk2 V c 0 t (ix2 r x) = V c main_v25 (ix2 s (pcol 0 g x)))
    ∧ (∀ s x, iblk2 V c 1 t (ix2 s x) = V c main_v25 (ix2 s (pcol 1 g x)))
    ∧ (∀ s x, iblk2 V c 2 t (ix2 s x) = V c main_v25 (ix2 s (pcol 2 g x)))
    ∧ (∀ h p, iblk2 V c 3 t (ix3 h r p) = V c main_v32 (ix3 (hd g h) s p))
    ∧ (∀ h p, iblk2 V c 4 t (ix3 h r p) = V c main_v34 (ix3 (hd g h) s p))
    ∧ (∀ j, iblk2 V c 5 t (ix3 0 0 j) = V c main_v57 (ix3 b 0 j))
    ∧ (iblk2 V c 6 t (ix2 r 0) = V c main_v39 (ix2 s 0))
    ∧ (∀ p, iblk2 V c 7 t (ix2 0 p) = V c main_v65 (ix2 0 p))
    ∧ (∀ h p, iblk2 V c 8 t (ix3 h 0 p) = V c main_v67 (ix3 (hd g h) 0 p))
    ∧ (∀ h p, iblk2 V c 9 t (ix3 h 0 p) = V c main_v69 (ix3 (hd g h) 0 p)) := by
  refine ⟨?_, ?_, ?_, ?_, ?_, ?_, ?_, ?_, ?_, ?_⟩ <;> intros <;> blk_point [iblk2, idx2 t]
  all_goals (simp only [pcol, hd, Fin.isValue, Fin.val_zero, Fin.val_one, Fin.val_two]; omega)

/-- A point's result at an index of its block. -/
theorem point2 (c : Dev nD) (t : Fin cfg2.N) (b g : Fin 8) (hb : (grid2.coords t 1).val = b) (hg : (grid2.coords t 0).val = g)
    (r : Fin 256) (s : Fin 2048) (hs : s.val = 256 * b.val + r) (l : Fin 128) : outsAt2 V c t (ix2 r l)
      = headAt (V c main_v25) (V c main_v32) (V c main_v34) (V c main_v57) (V c main_v39) (V c main_v65) (V c main_v67)
          (V c main_v69) b s g l 0
        + headAt (V c main_v25) (V c main_v32) (V c main_v34) (V c main_v57) (V c main_v39) (V c main_v65) (V c main_v67)
          (V c main_v69) b s g l 1 := by
  obtain ⟨r0, r1, r2, r3, r4, r5, r6, r7, r8, r9⟩ := reads2 V c t b g hb hg r s hs
  have hq : ∀ x, k2_pay2 (iblk2 V c 0 t) (ix2 r x)
      = scl (V c main_v25 (ix2 s (pcol 0 g x))) := fun x => by
    rw [← r0]; pointwise [k2_pay2, scl]
  have hv : ∀ j l, k2_pay4 (View.ld (iblk2 V c 2 t) (Rect.unit (s := S2048x128) (k2_off1 (grid2.coords t)) S512x128.size
      (k2_off1_inb (grid2.coords t)))) (ix2 j l) = V c main_v25 (ix2 (wi b j) (pcol 2 g l)) := fun j l => by
    rw [← r2, ← ld_apply (iblk2 V c 2 t) (grid2.coords t) b hb]; pointwise [k2_pay4]
  have hk : ∀ j l, k2_pay3 (View.ld (iblk2 V c 1 t) (Rect.unit (s := S2048x128) (k2_off1 (grid2.coords t)) S512x128.size
      (k2_off1_inb (grid2.coords t)))) (ix2 j l) = V c main_v25 (ix2 (wi b j) (pcol 1 g l)) := fun j l => by
    rw [← r1, ← ld_apply (iblk2 V c 1 t) (grid2.coords t) b hb]; pointwise [k2_pay3]
  have h5 : ∀ j, k2_pay7 (iblk2 V c 5 t) (ix2 0 j) = V c main_v57 (ix3 b 0 j) := fun j => by
    rw [← r5]; pointwise [k2_pay7]
  have h6 : k2_pay8 (iblk2 V c 6 t) (ix2 r 0) = V c main_v39 (ix2 s 0) := by
    rw [← r6]; pointwise [k2_pay8]
  have o0 : ∀ p, View.ld (iblk2 V c 3 t) (Rect.unit (s := S2x256x8) ![0, 0, 0] S1x256x8.size inb_S2x256x8_S1x256x8_0_0_0)
      (ix3 0 r p) = V c main_v32 (ix3 (hd g 0) s p) := fun p => by rw [← r3]; pointwise
  have o1 : ∀ p, View.ld (iblk2 V c 3 t) (Rect.unit (s := S2x256x8) ![1, 0, 0] S1x256x8.size inb_S2x256x8_S1x256x8_1_0_0)
      (ix3 0 r p) = V c main_v32 (ix3 (hd g 1) s p) := fun p => by rw [← r3]; pointwise
  have s0 : ∀ p, View.ld (iblk2 V c 4 t) (Rect.unit (s := S2x256x8) ![0, 0, 0] S1x256x8.size inb_S2x256x8_S1x256x8_0_0_0)
      (ix3 0 r p) = V c main_v34 (ix3 (hd g 0) s p) := fun p => by rw [← r4]; pointwise
  have s1 : ∀ p, View.ld (iblk2 V c 4 t) (Rect.unit (s := S2x256x8) ![1, 0, 0] S1x256x8.size inb_S2x256x8_S1x256x8_1_0_0)
      (ix3 0 r p) = V c main_v34 (ix3 (hd g 1) s p) := fun p => by rw [← r4]; pointwise
  have b0 : ∀ p, View.ld (iblk2 V c 9 t) (Rect.unit (s := S2x1x8) ![0, 0, 0] S1x1x8.size inb_S2x1x8_S1x1x8_0_0_0)
      (ix3 0 0 p) = V c main_v69 (ix3 (hd g 0) 0 p) := fun p => by rw [← r9]; pointwise
  have b1 : ∀ p, View.ld (iblk2 V c 9 t) (Rect.unit (s := S2x1x8) ![1, 0, 0] S1x1x8.size inb_S2x1x8_S1x1x8_1_0_0)
      (ix3 0 0 p) = V c main_v69 (ix3 (hd g 1) 0 p) := fun p => by rw [← r9]; pointwise
  have d0 : ∀ p, View.ld (iblk2 V c 8 t) (Rect.unit (s := S2x1x8) ![0, 0, 0] S1x1x8.size inb_S2x1x8_S1x1x8_0_0_0)
      (ix3 0 0 p) = V c main_v67 (ix3 (hd g 0) 0 p) := fun p => by rw [← r8]; pointwise
  have d1 : ∀ p, View.ld (iblk2 V c 8 t) (Rect.unit (s := S2x1x8) ![1, 0, 0] S1x1x8.size inb_S2x1x8_S1x1x8_1_0_0)
      (ix3 0 0 p) = V c main_v67 (ix3 (hd g 1) 0 p) := fun p => by rw [← r8]; pointwise
  rw [outs2]
  show headOp _ _ _ _ _ _ _ _ _ _ _ _ _ (ix2 r l) + headOp _ _ _ _ _ _ _ _ _ _ _ _ _ (ix2 r l) = _
  rw [head_apply, head_apply]
  simp only [hq, hk, hv, h5, h6, o0, o1, s0, s1, b0, b1, d0, d1, r7, mk0_apply, mk1_apply, qp_apply, jf_apply, hb, ← hs, headAt]
  congr 2
  exact funext mk1_apply

/-- The third region's result array, of the arrays the region reads. -/
theorem final2 (c : Dev nD) : (dat2 V c).arrAt 10 cfg2.N
    = att (V c main_v25) (V c main_v32) (V c main_v34) (V c main_v57) (V c main_v39) (V c main_v65) (V c main_v67)
        (V c main_v69) := by
  refine (dat2 V c).arrAt_eq_of_covers 10 _ (by decide +kernel) fun t _ y => ?_
  blk_simp
  rw [after2_10]
  have hr : (y 0).val < 256 := (y 0).isLt
  have hl : (y 1).val < 128 := (y 1).isLt
  have hb : (grid2.coords t 1).val < 8 := (grid2.coords t 1).isLt
  have hg : (grid2.coords t 0).val < 8 := (grid2.coords t 0).isLt
  have e0 : ((win2_10.blk t).view.emb y 0).val = 256 * (grid2.coords t 1).val + (y 0).val := by blk_simp [idx2 t]; omega
  have e1 : ((win2_10.blk t).view.emb y 1).val = 128 * (grid2.coords t 0).val + (y 1).val := by blk_simp [idx2 t]; omega
  have hy : y = ix2 (y 0) (y 1) := by funext a; fin_cases a <;> rfl
  have hp := point2 V c t ⟨_, hb⟩ ⟨_, hg⟩ rfl rfl (y 0) ((win2_10.blk t).view.emb y 0) e0 (y 1)
  refine (congrArg (outsAt2 V c t) hy).trans (hp.trans ?_)
  unfold att
  have c0 : (⟨((win2_10.blk t).view.emb y 0 : Nat) / 256, Nat.div_lt_of_lt_mul ((win2_10.blk t).view.emb y 0).isLt⟩ : Fin 8)
      = ⟨_, hb⟩ := Fin.ext (by show _ / 256 = (grid2.coords t 1).val; rw [e0]; omega)
  have c1 : (⟨((win2_10.blk t).view.emb y 1 : Nat) / 128, Nat.div_lt_of_lt_mul ((win2_10.blk t).view.emb y 1).isLt⟩ : Fin 8)
      = ⟨_, hg⟩ := Fin.ext (by show _ / 128 = (grid2.coords t 0).val; rw [e1]; omega)
  have c2 : (⟨((win2_10.blk t).view.emb y 1 : Nat) % 128, Nat.mod_lt _ (by decide)⟩ : Fin 128) = y 1 :=
    Fin.ext (by show _ % 128 = _; rw [e1]; omega)
  rw [c0, c1, c2]

end Cert.KernelIdeal.Val
-- ==== Proof.Finite.lean ====
module

public import proofs.«01_k».proof.Proof.Reg2Final
public import proofs.«01_k».proof.Proof.RealMath

/-! Finite extended reals, and which of the kernel's scalar operations keep them finite. -/

@[expose] public section

set_option maxRecDepth 16384

noncomputable section

open Idealize.ShloMosaic

namespace Cert.KernelIdeal.Val

/-- An extended real that is a real. -/
def IsR (x : EReal) : Prop := ∃ r : ℝ, x = (r : EReal)

/-- A real number is real. -/
theorem IsR.coe (r : ℝ) : IsR (r : EReal) := ⟨r, rfl⟩

/-- A sum of reals is real. -/
theorem IsR.add {x y : EReal} (hx : IsR x) (hy : IsR y) : IsR (x + y) := by
  obtain ⟨a, rfl⟩ := hx; obtain ⟨b, rfl⟩ := hy; exact ⟨a + b, (EReal.coe_add a b).symm⟩

/-- A difference of reals is real. -/
theorem IsR.sub {x y : EReal} (hx : IsR x) (hy : IsR y) : IsR (x - y) := by
  obtain ⟨a, rfl⟩ := hx; obtain ⟨b, rfl⟩ := hy; exact ⟨a - b, (EReal.coe_sub a b).symm⟩

/-- A product of reals is real. -/
theorem IsR.mul {x y : EReal} (hx : IsR x) (hy : IsR y) : IsR (x * y) := by
  obtain ⟨a, rfl⟩ := hx; obtain ⟨b, rfl⟩ := hy; exact ⟨a * b, (EReal.coe_mul a b).symm⟩

/-- Zero is real. -/
theorem IsR.zero : IsR 0 := ⟨0, rfl⟩

/-- One is real. -/
theorem IsR.one : IsR 1 := ⟨1, rfl⟩

/-- The maximum of two reals is the same among the extended reals. -/
theorem coe_max' (a b : ℝ) : ((max a b : ℝ) : EReal) = max (a : EReal) (b : EReal) :=
  (EReal.coe_strictMono.monotone).map_max

/-- The minimum of two reals is the same among the extended reals. -/
theorem coe_min' (a b : ℝ) : ((min a b : ℝ) : EReal) = min (a : EReal) (b : EReal) :=
  (EReal.coe_strictMono.monotone).map_min

/-- A maximum of reals is real. -/
theorem IsR.max {x y : EReal} (hx : IsR x) (hy : IsR y) : IsR (max x y) := by
  obtain ⟨a, rfl⟩ := hx; obtain ⟨b, rfl⟩ := hy; exact ⟨_, (coe_max' a b).symm⟩

/-- A minimum of reals is real. -/
theorem IsR.min {x y : EReal} (hx : IsR x) (hy : IsR y) : IsR (min x y) := by
  obtain ⟨a, rfl⟩ := hx; obtain ⟨b, rfl⟩ := hy; exact ⟨_, (coe_min' a b).symm⟩

/-- A finite sum of reals is the same among the extended reals. -/
theorem coe_sum' {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A finite sum of reals is real. -/
theorem IsR.sum {ι : Type*} (s : Finset ι) {f : ι → EReal} (h : ∀ i, IsR (f i)) : IsR (∑ i ∈ s, f i) := by
  choose g hg using h
  exact ⟨∑ i ∈ s, g i, by rw [coe_sum']; exact Finset.sum_congr rfl fun i _ => hg i⟩

/-- A number strictly between the infinities is real. -/
theorem IsR.of_lt {x : EReal} (h0 : ⊥ < x) (h1 : x < ⊤) : IsR x :=
  ⟨x.toReal, (EReal.coe_toReal h1.ne h0.ne').symm⟩

/-- A number of magnitude below infinity is real. -/
theorem IsR.of_abs {x : EReal} (h : absE x < ⊤) : IsR x := by
  unfold absE at h
  refine IsR.of_lt (bot_lt_iff_ne_bot.2 fun e => ?_) (lt_top_iff_ne_top.2 fun e => ?_)
  · rw [e] at h; simp at h
  · rw [e] at h; simp at h

/-- The logarithm of one more than a number that is not negative. -/
theorem IsR.log1p {x : EReal} (hx : IsR x) (h : 0 ≤ x) : IsR (Ideal.log1p x) := by
  obtain ⟨a, rfl⟩ := hx
  have ha : (0 : ℝ) ≤ a := by exact_mod_cast h
  unfold Ideal.log1p
  have : (1 : EReal) + (a : EReal) = ((1 + a : ℝ) : EReal) := by rw [EReal.coe_add]; rfl
  rw [this]
  refine ⟨Real.log (1 + a), ?_⟩
  show (if (1 + a : ℝ) ≤ 0 then (⊥ : EReal) else _) = _
  rw [if_neg (by linarith)]

/-- The hyperbolic tangent of a real is real. -/
theorem IsR.tanh {x : EReal} (hx : IsR x) : IsR (Ideal.tanh x) := by
  obtain ⟨a, rfl⟩ := hx; exact ⟨_, rfl⟩

/-- A hyperbolic tangent lies within one of zero. -/
theorem tanh_bd (x : EReal) : ((-1 : ℝ) : EReal) ≤ Ideal.tanh x ∧ Ideal.tanh x ≤ ((1 : ℝ) : EReal) := by
  have h11 : ((-1 : ℝ) : EReal) ≤ ((1 : ℝ) : EReal) := EReal.coe_le_coe_iff.2 (by norm_num)
  induction x with
  | bot =>
    have : Ideal.tanh ⊥ = ((-1 : ℝ) : EReal) := by rw [EReal.coe_neg]; rfl
    rw [this]; exact ⟨le_rfl, h11⟩
  | top =>
    have : Ideal.tanh ⊤ = ((1 : ℝ) : EReal) := rfl
    rw [this]; exact ⟨h11, le_rfl⟩
  | coe a => exact ⟨EReal.coe_le_coe_iff.2 (Real.neg_one_lt_tanh a).le, EReal.coe_le_coe_iff.2 (Real.tanh_lt_one a).le⟩

/-- The word of minus infinity. -/
theorem ofBits_ninf : Ideal.ofBits FTy.f32 4286578688#32 = ⊥ := by
  simp [Ideal.ofBits, Ideal.ieee]

/-- The word of infinity. -/
theorem ofBits_pinf : Ideal.ofBits FTy.f32 2139095040#32 = ⊤ := by
  simp [Ideal.ofBits, Ideal.ieee]

/-- The word of eight. -/
theorem ofBits_8 : Ideal.ofBits FTy.f32 1090519040#32 = ((8 : ℝ) : EReal) := by
  simp [Ideal.ofBits, Ideal.ieee, -EReal.coe_mul]; norm_num

/-- The word of one eighth. -/
theorem ofBits_8th : Ideal.ofBits FTy.f32 1040187392#32 = ((1 / 8 : ℝ) : EReal) := by
  simp [Ideal.ofBits, Ideal.ieee, -EReal.coe_mul]; norm_num

/-- The weights of real logits are real and not negative. -/
theorem smx_real {lg : Fin 8 → EReal} (h : ∀ p, IsR (lg p)) (p : Fin 8) : ∃ r : ℝ, 0 ≤ r ∧ Val.smx lg p = (r : EReal) := by
  choose g hg using h
  obtain rfl : lg = fun p => (g p : EReal) := funext hg
  unfold Val.smx
  rw [ofBits_ninf]
  have hM : IsR (Finset.fold Max.max (⊥ : EReal) (fun p => (g p : EReal)) Finset.univ) := by
    refine IsR.of_lt ?_ ?_
    · exact (Finset.lt_fold_max _).2 (Or.inr ⟨0, Finset.mem_univ _, EReal.bot_lt_coe _⟩)
    · exact (Finset.fold_max_lt _).2 ⟨bot_lt_top, fun x _ => EReal.coe_lt_top _⟩
  obtain ⟨M, hM⟩ := hM
  rw [hM]
  have he : ∀ x, Ideal.exp ((g x : EReal) - (M : EReal)) = ((Real.exp (g x - M) : ℝ) : EReal) := fun x => by
    rw [← EReal.coe_sub]; rfl
  simp only [he]
  rw [← coe_sum']
  have hpos : (∑ x, Real.exp (g x - M)) ≠ 0 := (Finset.sum_pos (fun x _ => Real.exp_pos _) ⟨0, Finset.mem_univ _⟩).ne'
  rw [Ideal.div_coe hpos]
  exact ⟨Real.exp (g p - M) * (1 / ∑ x, Real.exp (g x - M)),
    mul_nonneg (Real.exp_pos _).le (one_div_nonneg.2 (Finset.sum_nonneg fun x _ => (Real.exp_pos _).le)), (EReal.coe_mul _ _).symm⟩

/-- A real number that is not negative multiplies a sum of any extended reals term by term. -/
theorem coe_mul_sum {ι : Type*} (s : Finset ι) (c : ℝ) (hc : 0 ≤ c) (f : ι → EReal) :
    (c : EReal) * ∑ i ∈ s, f i = ∑ i ∈ s, (c : EReal) * f i := by
  classical
  induction s using Finset.induction_on with
  | empty => simp
  | insert a s h ih =>
    rw [Finset.sum_insert h, Finset.sum_insert h,
      EReal.left_distrib_of_nonneg_of_ne_top (EReal.coe_nonneg.2 hc) (EReal.coe_ne_top c), ih]

/-- A sum of real numbers that are not negative multiplies any extended real term by term. -/
theorem coe_sum_mul {ι : Type*} (s : Finset ι) (c : ι → ℝ) (hc : ∀ i, 0 ≤ c i) (x : EReal) :
    ((∑ i ∈ s, c i : ℝ) : EReal) * x = ∑ i ∈ s, (c i : EReal) * x := by
  classical
  induction s using Finset.induction_on with
  | empty => simp
  | insert a s h ih =>
    rw [Finset.sum_insert h, Finset.sum_insert h, EReal.coe_add, EReal.right_distrib_of_nonneg (EReal.coe_nonneg.2 (hc a))
      (EReal.coe_nonneg.2 (Finset.sum_nonneg fun i _ => hc i)), ih]

/-- A row number is real. -/
theorem IsR.natE (n : ℕ) : IsR (Val.natE n) := ⟨_, rfl⟩

end Cert.KernelIdeal.Val
-- ==== Proof.KHost.lean ====
module

public import proofs.«01_k».proof.Proof.Gen.KernelIdeal.Frame
public import Idealize.ShloMosaic.Lib.Pipeline.ValueKit
public import Idealize.ShloMosaic.Lib.Pointwise
public import proofs.«01_k».proof.Proof.Reg2Final
public import Idealize.ShloMosaic.Lib.StableHlo.RunRead
public import proofs.«01_k».proof.Proof.Gen.ReferenceIdeal.Read

/-!
The host operations around the kernel's regions, read one result at a time from any contents before them.
-/

@[expose] public section

set_option maxRecDepth 16384

noncomputable section

open Idealize.ShloMosaic Idealize.ShloMosaic.TcCoe Idealize.SL.Sem
open Idealize.ShloMosaic.Pipeline (Dat)
open Idealize.ShloMosaic.StableHlo (after)

namespace Cert.KernelIdeal.Val

open Cert.KernelIdeal Cert.KernelIdeal.Gen

/-- The time-step weight: the one row of `x9` through the second part of the joint projection. -/
def wdcF (x9 : FVec Ideal S1x256 .f32) (x11 : FVec Ideal S1536x1024 .f32) (x : Fin 1024) : EReal :=
  ∑ k : Fin 256, x9 (ix2 0 k) * x11 (ix2 ⟨1024 + (k : Nat), Nat.lt_trans (Nat.add_lt_add_left k.isLt 1024) (by decide)⟩ x)

/-- A table row through the third part of the joint projection. -/
def tabF (x8 : FVec Ideal S9x256 .f32) (x11 : FVec Ideal S1536x1024 .f32) (r : Fin 9) (x : Fin 1024) : EReal :=
  ∑ k : Fin 256, x8 (ix2 r k) * x11 (ix2 ⟨1280 + (k : Nat), Nat.add_lt_add_left k.isLt 1280⟩ x)

/-- The bias of the time features through the second part of the joint projection. -/
def bdtF (x10 : FVec Ideal S256 .f32) (x11 : FVec Ideal S1536x1024 .f32) (x : Fin 1024) : EReal :=
  ∑ k : Fin 256, x10 (ix1 k) * x11 (ix2 ⟨1024 + (k : Nat), Nat.lt_trans (Nat.add_lt_add_left k.isLt 1024) (by decide)⟩ x)

/-- A sum of two values. -/
def addE (x y : EReal) : EReal := x + y

/-- A difference of two values. -/
def subE (x y : EReal) : EReal := x - y

variable (V : Valuation τ sig (Elt Ideal))

/-- The rows of the input. -/
theorem h0_v0 (i x) : (after hostOps0 V (Proc.devRef .tc main_v0) : FVec Ideal S2048x1024 .f32) (ix2 i x)
    = V (Proc.devRef .tc main_arg0) (ix3 0 i x) := by
  after_reads_simp
  pointwise

/-- The time steps as a column. -/
theorem h0_v2 (i) : (after hostOps0 V (Proc.devRef .tc main_v2) : FVec Ideal S2048x1 .f32) (ix2 i 0)
    = V (Proc.devRef .tc main_arg1) (ix2 0 i) := by
  after_reads_simp
  pointwise

/-- The weight of the logarithm of the time step. -/
theorem h0_v7 (x) : (after hostOps0 V (Proc.devRef .tc main_v7) : FVec Ideal S1x1x1024 .f32) (ix3 0 0 x)
    = wdcF (V (Proc.devRef .tc main_arg9)) (V (Proc.devRef .tc main_arg11)) x := by
  after_reads_simp
  pointwise [wdcF]

/-- The steps between the rows of the projected table. -/
theorem h0_v17 (j x) : (after hostOps0 V (Proc.devRef .tc main_v17) : FVec Ideal S8x1x1024 .f32) (ix3 j 0 x)
    = subE (tabF (V (Proc.devRef .tc main_arg8)) (V (Proc.devRef .tc main_arg11)) j.succ x) (tabF (V (Proc.devRef .tc main_arg8)) (V (Proc.devRef .tc main_arg11)) j.castSucc x) := by
  rw [show j.succ = ⟨1 + (j : Nat), by omega⟩ from Fin.ext (Nat.add_comm _ _)]
  after_reads_simp
  pointwise [tabF, subE]
  rfl

/-- Part 0 of the joined weights. -/
theorem h0_v18_0 (j x : Fin 1024) : (after hostOps0 V (Proc.devRef .tc main_v18) : FVec Ideal S1024x4096 .f32) (ix2 j ⟨(x : Nat), by omega⟩)
    = V (Proc.devRef .tc main_arg2) (ix2 j x) := by
  after_reads_simp
  pointwise

/-- Part 1 of the joined weights. -/
theorem h0_v18_1 (j x : Fin 1024) : (after hostOps0 V (Proc.devRef .tc main_v18) : FVec Ideal S1024x4096 .f32) (ix2 j ⟨1024 + (x : Nat), by omega⟩)
    = V (Proc.devRef .tc main_arg4) (ix2 j x) := by
  after_reads_simp
  pointwise

/-- Part 2 of the joined weights. -/
theorem h0_v18_2 (j x : Fin 1024) : (after hostOps0 V (Proc.devRef .tc main_v18) : FVec Ideal S1024x4096 .f32) (ix2 j ⟨2048 + (x : Nat), by omega⟩)
    = V (Proc.devRef .tc main_arg6) (ix2 j x) := by
  after_reads_simp
  pointwise
  rw [dif_neg (by omega), dif_neg (by omega), dif_pos (by omega)]
  exact congrArg (fun z => V (Proc.devRef .tc main_arg6) (ix2 j z)) (Fin.ext (by show 2048 + (x : Nat) - 1024 - 1024 = x; omega))

/-- Part 3 of the joined weights. -/
theorem h0_v18_3 (j x : Fin 1024) : (after hostOps0 V (Proc.devRef .tc main_v18) : FVec Ideal S1024x4096 .f32) (ix2 j ⟨3072 + (x : Nat), by omega⟩)
    = V (Proc.devRef .tc main_arg11) (ix2 ⟨(j : Nat), by omega⟩ x) := by
  after_reads_simp
  pointwise
  rw [dif_neg (by omega), dif_neg (by omega), dif_neg (by omega)]
  after_reads_simp
  pointwise
  exact congrArg (fun z => V (Proc.devRef .tc main_arg11) (ix2 _ z)) (Fin.ext (by show 3072 + (x : Nat) - 1024 - 1024 - 1024 = x; omega))

/-- Row 0 of the joined biases. -/
theorem h0_v24_0 (x : Fin 1024) : (after hostOps0 V (Proc.devRef .tc main_v24) : FVec Ideal S4x1x1024 .f32) (ix3 0 0 x)
    = V (Proc.devRef .tc main_arg3) (ix1 x) := by
  after_reads_simp
  pointwise
  after_reads_simp
  pointwise

/-- Row 1 of the joined biases. -/
theorem h0_v24_1 (x : Fin 1024) : (after hostOps0 V (Proc.devRef .tc main_v24) : FVec Ideal S4x1x1024 .f32) (ix3 1 0 x)
    = V (Proc.devRef .tc main_arg5) (ix1 x) := by
  after_reads_simp
  pointwise
  after_reads_simp
  pointwise

/-- Row 2 of the joined biases. -/
theorem h0_v24_2 (x : Fin 1024) : (after hostOps0 V (Proc.devRef .tc main_v24) : FVec Ideal S4x1x1024 .f32) (ix3 2 0 x)
    = V (Proc.devRef .tc main_arg7) (ix1 x) := by
  after_reads_simp
  pointwise
  after_reads_simp
  pointwise

/-- Row 3 of the joined biases. -/
theorem h0_v24_3 (x : Fin 1024) : (after hostOps0 V (Proc.devRef .tc main_v24) : FVec Ideal S4x1x1024 .f32) (ix3 3 0 x)
    = addE (addE (V (Proc.devRef .tc main_arg12) (ix1 x)) (bdtF (V (Proc.devRef .tc main_arg10)) (V (Proc.devRef .tc main_arg11)) x)) (tabF (V (Proc.devRef .tc main_arg8)) (V (Proc.devRef .tc main_arg11)) 0 x) := by
  after_reads_simp
  pointwise
  after_reads_simp
  pointwise [tabF, bdtF, addE]

/-- Row 0 of the two biases of the second region. -/
theorem h1_v29_0 (x : Fin 128) : (after hostOps1 V (Proc.devRef .tc main_v29) : FVec Ideal S2x1x128 .f32) (ix3 0 0 x)
    = V (Proc.devRef .tc main_arg14) (ix1 x) := by
  after_reads_simp
  pointwise
  after_reads_simp
  pointwise

/-- Row 1 of the two biases of the second region. -/
theorem h1_v29_1 (x : Fin 128) : (after hostOps1 V (Proc.devRef .tc main_v29) : FVec Ideal S2x1x128 .f32) (ix3 1 0 x)
    = V (Proc.devRef .tc main_arg16) (ix1 x) := by
  after_reads_simp
  pointwise
  after_reads_simp
  pointwise

/-- An array of the second region, head by head. -/
theorem h2_v32 (j : Fin 16) (s : Fin 2048) (p : Fin 8) : (after hostOps2 V (Proc.devRef .tc main_v32) : FVec Ideal S16x2048x8 .f32) (ix3 j s p)
    = V (Proc.devRef .tc main_v30_0) (ix2 s ⟨(j : Nat) * 8 + p, by omega⟩) := by
  after_reads_simp
  pointwise

/-- An array of the second region, head by head. -/
theorem h2_v34 (j : Fin 16) (s : Fin 2048) (p : Fin 8) : (after hostOps2 V (Proc.devRef .tc main_v34) : FVec Ideal S16x2048x8 .f32) (ix3 j s p)
    = V (Proc.devRef .tc main_v30_1) (ix2 s ⟨(j : Nat) * 8 + p, by omega⟩) := by
  after_reads_simp
  pointwise

/-- The time steps, negative ones replaced by zero. -/
theorem h2_v37 : (after hostOps2 V (Proc.devRef .tc main_v37) : FVec Ideal S2048 .f32)
    = ReferenceIdeal.Read.val_main_v21 (V (Proc.devRef .tc main_arg1)) := by
  after_reads_simp
  rfl

/-- The elapsed times: the running sum of the time steps. -/
theorem h2_1_v38 (x1 : FVec Ideal S1x2048 .f32)
    (h : (V (Proc.devRef .tc main_v37) : FVec Ideal S2048 .f32) = ReferenceIdeal.Read.val_main_v21 x1) :
    (after hostOps2_1 V (Proc.devRef .tc main_v38) : FVec Ideal S2048 .f32) = ReferenceIdeal.Read.val_main_v192 x1 := by
  unfold ReferenceIdeal.Read.val_main_v192
  rw [← h]
  after_reads_simp
  rfl

/-- The elapsed times as a column. -/
theorem h2_2_v39 (s : Fin 2048) : (after hostOps2_2 V (Proc.devRef .tc main_v39) : FVec Ideal S2048x1 .f32) (ix2 s 0)
    = V (Proc.devRef .tc main_v38) (ix1 s) := by
  after_reads_simp
  pointwise

/-- The first position of the window of a block of 256 rows, by cases. -/
theorem winStart_cases : winStart 0 = 0 ∧ winStart 1 = 112 ∧ winStart 2 = 368 ∧ winStart 3 = 624 ∧ winStart 4 = 880
    ∧ winStart 5 = 1136 ∧ winStart 6 = 1392 ∧ winStart 7 = 1536 := by decide

/-- The elapsed times at each block's window. -/
theorem h2_2_v57 (b : Fin 8) (j : Fin 512) : (after hostOps2_2 V (Proc.devRef .tc main_v57) : FVec Ideal S8x1x512 .f32) (ix3 b 0 j)
    = V (Proc.devRef .tc main_v38) (ix1 (wi b j)) := by
  obtain ⟨b, hb⟩ := b
  after_reads_simp
  pointwise
  after_reads_simp
  pointwise
  interval_cases b
  all_goals first
    | rfl
    | exact congrArg (fun z => V (Proc.devRef .tc main_v38) (ix1 z)) (Fin.ext (Nat.zero_add _).symm)

/-- The first exponent. -/
theorem h2_2_cst_0 : (after hostOps2_2 V (Proc.devRef .tc main_cst_0) : FVec Ideal S_ .f32) = ReferenceIdeal.Read.val_main_cst_10 := by
  after_reads_simp
  rfl

/-- The last exponent. -/
theorem h2_2_cst_1 : (after hostOps2_2 V (Proc.devRef .tc main_cst_1) : FVec Ideal S_ .f32) = ReferenceIdeal.Read.val_main_cst_11 := by
  after_reads_simp
  rfl

/-- The exponents of the anchors. -/
theorem h2_3_v58 (h0 : (V (Proc.devRef .tc main_cst_0) : FVec Ideal S_ .f32) = ReferenceIdeal.Read.val_main_cst_10)
    (h1 : (V (Proc.devRef .tc main_cst_1) : FVec Ideal S_ .f32) = ReferenceIdeal.Read.val_main_cst_11) :
    (after hostOps2_3 V (Proc.devRef .tc main_v58) : FVec Ideal S8 .f32) = ReferenceIdeal.Read.val_main_v88 := by
  after_reads_simp
  unfold ReferenceIdeal.Read.val_main_v88
  refine congrArg₂ (fun (a : FVec Ideal S7 .f32) (b : FVec Ideal S1 .f32) =>
    concatenate S8 0 [⟨S7, a⟩, ⟨S1, b⟩] concatenates_S7_S1_S8_d0) ?_ ?_
  · after_reads_simp
    rw [show V (Proc.devRef .tc main_cst_0) = _ from h0, show V (Proc.devRef .tc main_cst_1) = _ from h1]
    rfl
  · after_reads_simp
    rw [show V (Proc.devRef .tc main_cst_1) = _ from h1]
    rfl

/-- The anchors. -/
theorem h2_4_v65 (h : (V (Proc.devRef .tc main_v58) : FVec Ideal S8 .f32) = ReferenceIdeal.Read.val_main_v88) (p) :
    (after hostOps2_4 V (Proc.devRef .tc main_v65) : FVec Ideal S1x8 .f32) (ix2 0 p) = ReferenceIdeal.Read.val_main_v94 (F := Ideal) (ix1 p) := by
  after_reads_simp
  rw [show (V (Proc.devRef .tc main_v58)) = ReferenceIdeal.Read.val_main_v88 from h]
  pointwise
  rfl

/-- The time coefficients. -/
theorem h2_5_v66 : (after hostOps2_5 V (Proc.devRef .tc main_v66) : FVec Ideal S16x8 .f32)
    = ReferenceIdeal.Read.val_main_v218 (V (Proc.devRef .tc main_arg20)) := by
  after_reads_simp
  rfl

/-- The time coefficients, head by head. -/
theorem h2_6_v67 (j : Fin 16) (p : Fin 8) : (after hostOps2_6 V (Proc.devRef .tc main_v67) : FVec Ideal S16x1x8 .f32) (ix3 j 0 p)
    = V (Proc.devRef .tc main_v66) (ix2 j p) := by
  after_reads_simp
  pointwise

/-- The two biases of the points, added. -/
theorem h2_6_v69 (j : Fin 16) (p : Fin 8) : (after hostOps2_6 V (Proc.devRef .tc main_v69) : FVec Ideal S16x1x8 .f32) (ix3 j 0 p)
    = addE (V (Proc.devRef .tc main_arg21) (ix2 j p)) (V (Proc.devRef .tc main_arg19) (ix2 j p)) := by
  after_reads_simp
  pointwise [addE]

/-- The last bias as a row. -/
theorem h3_v71 (x : Fin 1024) : (after hostOps3 V (Proc.devRef .tc main_v71) : FVec Ideal S1x1024 .f32) (ix2 0 x)
    = V (Proc.devRef .tc main_arg18) (ix1 x) := by
  after_reads_simp
  pointwise

/-- The result. -/
theorem h4_v73 (s : Fin 2048) (x : Fin 1024) : (after hostOps4 V (Proc.devRef .tc main_v73) : FVec Ideal S1x2048x1024 .f32) (ix3 0 s x)
    = V (Proc.devRef .tc main_v72) (ix2 s x) := by
  after_reads_simp
  pointwise

end Cert.KernelIdeal.Val
-- ==== Proof.Reg0.lean ====
module

public import proofs.«01_k».proof.Proof.Gen.KernelIdeal.Frame
public import Idealize.ShloMosaic.Lib.Pipeline.ValueKit
public import Idealize.ShloMosaic.Lib.Pointwise

/-!
The first kernel region, the projection of the token features through four weight matrices side by side, and the
last one, the projection of the attention output: what each leaves in its result array, element by element.
-/

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen

variable (V : (c : Dev nD) → (b : Ref sig .tc) → Buf (Elt Ideal) ((c : Thread nD τ).loc b))

/-- The array the first region writes, of the three arrays it reads: features times weights plus bias, the bias being
    held as four rows of 1024. -/
def proj (x : FVec Ideal S2048x1024 .f32) (w : FVec Ideal S1024x4096 .f32) (b : FVec Ideal S4x1x1024 .f32) :
    FVec Ideal S2048x4096 .f32 := fun i =>
  (∑ k : Fin 1024, x (ix2 (i 0) k) * w (ix2 k (i 1)))
    + b (ix3 ⟨(i 1 : Nat) / 1024, Nat.div_lt_of_lt_mul (i 1).isLt⟩ 0 ⟨(i 1 : Nat) % 1024, Nat.mod_lt _ (by decide)⟩)

/-- The windows' positions in the first region's arrays. -/
theorem idx0 : ∀ t : Fin cfg0.N, win0_0.index t = ![(grid0.coords t 1).val, 0] ∧ win0_1.index t = ![0, (grid0.coords t 0).val]
    ∧ win0_2.index t = ![(grid0.coords t 0).val, 0, 0] ∧ win0_3.index t = ![(grid0.coords t 1).val, (grid0.coords t 0).val] :=
  (by decide +kernel : ∀ t : Fin grid0.N, _)

/-- What a point of the first region stores at an index of its block is the projection at the place that index has in the array. -/
theorem point0 (c : Dev nD) (t : Fin cfg0.N) (y) : k0_pay1 (iblk0 V c 0 t) (iblk0 V c 1 t) (iblk0 V c 2 t) y
    = proj (V c main_v0) (V c main_v18) (V c main_v24) (((cfg0.win 3).blk t).view.emb y) := by
  pointwise [k0_pay1, proj]
  blk_point [iblk0, idx0 t]

/-- The first region's result array, of the arrays the region reads. -/
theorem final0 (c : Dev nD) : (dat0 V c).arrAt 3 cfg0.N = proj (V c main_v0) (V c main_v18) (V c main_v24) := by
  refine (dat0 V c).arrAt_eq_of_covers 3 _ (by decide +kernel) fun t _ y => ?_
  blk_simp
  rw [after0_3]; frame_out
  exact point0 V c t y

/-- The array the last region writes, of the three arrays it reads. -/
def outp (a : FVec Ideal S2048x1024 .f32) (w : FVec Ideal S1024x1024 .f32) (b : FVec Ideal S1x1024 .f32) :
    FVec Ideal S2048x1024 .f32 := fun i =>
  (∑ k : Fin 1024, a (ix2 (i 0) k) * w (ix2 k (i 1))) + b (ix2 0 (i 1))

/-- The windows' positions in the last region's arrays. -/
theorem idx3 : ∀ t : Fin cfg3.N, win3_0.index t = ![(grid3.coords t 0).val, 0] ∧ win3_1.index t = ![0, 0]
    ∧ win3_2.index t = ![0, 0] ∧ win3_3.index t = ![(grid3.coords t 0).val, 0] :=
  (by decide +kernel : ∀ t : Fin grid3.N, _)

/-- The last region's result array, of the arrays the region reads. -/
theorem final3 (c : Dev nD) : (dat3 V c).arrAt 3 cfg3.N = outp (V c main_v70) (V c main_arg17) (V c main_v71) := by
  refine (dat3 V c).arrAt_eq_of_covers 3 _ (by decide +kernel) fun t _ y => ?_
  blk_simp
  rw [after3_3]; frame_out
  pointwise [k3_pay1, outp]
  blk_point [iblk3, idx3 t]

end Cert.KernelIdeal.Val
-- ==== Proof.Reg1.lean ====
module

public import proofs.«01_k».proof.Proof.Gen.KernelIdeal.Frame
public import Idealize.ShloMosaic.Lib.Pipeline.ValueKit
public import Idealize.ShloMosaic.Lib.Pointwise

/-!
The second kernel region: the offsets and the point scores it leaves in its two result arrays, element by element.
-/

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen

variable (V : (c : Dev nD) → (b : Ref sig .tc) → Buf (Elt Ideal) ((c : Thread nD τ).loc b))

/-- The 0/1 weight of the condition `b < d`. -/
def msk (b d : EReal) : EReal := FloatOps.sitofp (F := Ideal) FTy.f32 (BitVec.setWidth 32 (BitVec.ofBool (decide (b < d))))

/-- The weight's definition, to be read from right to left. -/
theorem msk_fold (b d : EReal) :
    FloatOps.sitofp (F := Ideal) FTy.f32 (BitVec.setWidth 32 (BitVec.ofBool (decide (b < d)))) = msk b d := rfl

/-- The time-conditioned features as the second region computes them at row `s`, column `x`: the projected features, plus the
    logarithm of the time step times its weight, plus for each of eight bounds that the time step exceeds the step from
    one table row to the next. -/
def tcv (tr : FVec Ideal S2048x4096 .f32) (dt : FVec Ideal S2048x1 .f32) (wdc : FVec Ideal S1x1x1024 .f32)
    (ed : FVec Ideal S8x1x1024 .f32) (s : Fin 2048) (x : Fin 1024) : EReal :=
  tr (ix2 s ⟨3072 + (x : Nat), Nat.add_lt_add_left x.isLt 3072⟩) + Ideal.log1p (max (dt (ix2 s 0)) 0) * wdc (ix3 0 0 x)
    + msk 0 (max (dt (ix2 s 0)) 0) * ed (ix3 0 0 x)
    + msk (Ideal.ofBits FTy.f32 1056964608#32) (max (dt (ix2 s 0)) 0) * ed (ix3 1 0 x)
    + msk 1 (max (dt (ix2 s 0)) 0) * ed (ix3 2 0 x)
    + msk (Ideal.ofBits FTy.f32 1073741824#32) (max (dt (ix2 s 0)) 0) * ed (ix3 3 0 x)
    + msk (Ideal.ofBits FTy.f32 1082130432#32) (max (dt (ix2 s 0)) 0) * ed (ix3 4 0 x)
    + msk (Ideal.ofBits FTy.f32 1090519040#32) (max (dt (ix2 s 0)) 0) * ed (ix3 5 0 x)
    + msk (Ideal.ofBits FTy.f32 1094713344#32) (max (dt (ix2 s 0)) 0) * ed (ix3 6 0 x)
    + msk (Ideal.ofBits FTy.f32 1103101952#32) (max (dt (ix2 s 0)) 0) * ed (ix3 7 0 x)

/-- The offsets the second region writes: the hyperbolic tangent of the features' projection. -/
def offv (tr : FVec Ideal S2048x4096 .f32) (dt : FVec Ideal S2048x1 .f32) (wdc : FVec Ideal S1x1x1024 .f32)
    (ed : FVec Ideal S8x1x1024 .f32) (w : FVec Ideal S1024x128 .f32) (b : FVec Ideal S2x1x128 .f32) : FVec Ideal S2048x128 .f32 := fun i =>
  Ideal.tanh ((∑ x : Fin 1024, tcv tr dt wdc ed (i 0) x * w (ix2 x (i 1))) + b (ix3 0 0 (i 1)))

/-- The point scores the second region writes: another projection of the same features. -/
def psv (tr : FVec Ideal S2048x4096 .f32) (dt : FVec Ideal S2048x1 .f32) (wdc : FVec Ideal S1x1x1024 .f32)
    (ed : FVec Ideal S8x1x1024 .f32) (w : FVec Ideal S1024x128 .f32) (b : FVec Ideal S2x1x128 .f32) : FVec Ideal S2048x128 .f32 := fun i =>
  (∑ x : Fin 1024, tcv tr dt wdc ed (i 0) x * w (ix2 x (i 1))) + b (ix3 1 0 (i 1))

/-- The windows' positions in the second region's arrays. -/
theorem idx1 : ∀ t : Fin cfg1.N, win1_0.index t = ![(grid1.coords t 0).val, 3] ∧ win1_1.index t = ![(grid1.coords t 0).val, 0]
    ∧ win1_2.index t = ![0, 0, 0] ∧ win1_3.index t = ![0, 0, 0] ∧ win1_4.index t = ![0, 0] ∧ win1_5.index t = ![0, 0] ∧ win1_6.index t = ![0, 0, 0]
    ∧ win1_7.index t = ![(grid1.coords t 0).val, 0] ∧ win1_8.index t = ![(grid1.coords t 0).val, 0] :=
  (by decide +kernel : ∀ t : Fin grid1.N, _)

/-- The offsets after the second region, of the arrays the region reads. -/
theorem final1_7 (c : Dev nD) : (dat1 V c).arrAt 7 cfg1.N
    = offv (V c main_v25) (V c main_v2) (V c main_v7) (V c main_v17) (V c main_arg13) (V c main_v29) := by
  refine (dat1 V c).arrAt_eq_of_covers 7 _ (by decide +kernel) fun t _ y => ?_
  blk_simp
  rw [after1_7]; frame_out
  unfold_payloads
  pointwise [offv, tcv]
  simp only [msk_fold]
  blk_point [iblk1, idx1 t]

/-- The point scores after the second region, of the arrays the region reads. -/
theorem final1_8 (c : Dev nD) : (dat1 V c).arrAt 8 cfg1.N
    = psv (V c main_v25) (V c main_v2) (V c main_v7) (V c main_v17) (V c main_arg15) (V c main_v29) := by
  refine (dat1 V c).arrAt_eq_of_covers 8 _ (by decide +kernel) fun t _ y => ?_
  blk_simp
  rw [after1_8]; frame_out
  unfold_payloads
  pointwise [psv, tcv]
  simp only [msk_fold]
  blk_point [iblk1, idx1 t]

end Cert.KernelIdeal.Val
-- ==== Proof.KVal.lean ====
module

public import proofs.«01_k».proof.Proof.Gen.KernelIdeal.Frame
public import Idealize.ShloMosaic.Lib.Pipeline.ValueKit
public import Idealize.ShloMosaic.Lib.Pointwise
public import proofs.«01_k».proof.Proof.KHost
public import proofs.«01_k».proof.Proof.Reg0
public import proofs.«01_k».proof.Proof.Reg1
public import Idealize.ShloMosaic.Lib.StableHlo.RunRead
public import proofs.«01_k».proof.Proof.Gen.ReferenceIdeal.Read

/-!
The kernel's result as one closed form of its arguments: the host operations and the four regions put together.
-/

@[expose] public section

set_option maxRecDepth 16384

noncomputable section

open Idealize.ShloMosaic Idealize.ShloMosaic.TcCoe Idealize.SL.Sem
open Idealize.ShloMosaic.Pipeline (Dat)
open Idealize.ShloMosaic.StableHlo (after)

namespace Cert.KernelIdeal.Val

open Cert.KernelIdeal Cert.KernelIdeal.Gen

/-- A projection of the input: one row through a weight, with its bias. -/
def lin (x : FVec Ideal S1x2048x1024 .f32) (w : FVec Ideal S1024x1024 .f32) (b : FVec Ideal S1024 .f32) (s : Fin 2048)
    (d : Fin 1024) : EReal := (∑ k : Fin 1024, x (ix3 0 s k) * w (ix2 k d)) + b (ix1 d)

/-- A pair's lane is a column. -/
theorem dcol_lt (g : Fin 8) (x : Fin 128) : 128 * (g : Nat) + x < 1024 := by omega

/-- The column of lane `x` of the pair of heads `g`. -/
def dcol (g : Fin 8) (x : Fin 128) : Fin 1024 := ⟨128 * (g : Nat) + x, dcol_lt g x⟩

/-- A head's point is a column. -/
theorem hcol_lt (h : Fin 16) (p : Fin 8) : (h : Nat) * 8 + p < 128 := by omega

/-- The column of the point `p` of the head `h`. -/
def hcol (h : Fin 16) (p : Fin 8) : Fin 128 := ⟨(h : Nat) * 8 + p, hcol_lt h p⟩

/-- The joint projection's part of the input's row: the first 1024 rows of its weight. -/
def linT (x : FVec Ideal S1x2048x1024 .f32) (x11 : FVec Ideal S1536x1024 .f32) (s : Fin 2048) (d : Fin 1024) : EReal :=
  ∑ k : Fin 1024, x (ix3 0 s k) * x11 (ix2 ⟨(k : Nat), Nat.lt_trans k.isLt (by decide)⟩ d)

/-- The time step of a row, a negative one replaced by zero. -/
def dtE (x1 : FVec Ideal S1x2048 .f32) (s : Fin 2048) : EReal := max (x1 (ix2 0 s)) 0

/-- The time-conditioned features as the kernel computes them. -/
def tcK (x0 : FVec Ideal S1x2048x1024 .f32) (x1 : FVec Ideal S1x2048 .f32) (x8 : FVec Ideal S9x256 .f32)
    (x9 : FVec Ideal S1x256 .f32) (x10 : FVec Ideal S256 .f32) (x11 : FVec Ideal S1536x1024 .f32) (x12 : FVec Ideal S1024 .f32)
    (s : Fin 2048) (x : Fin 1024) : EReal :=
  (linT x0 x11 s x + addE (addE (x12 (ix1 x)) (bdtF x10 x11 x)) (tabF x8 x11 0 x)) + Ideal.log1p (dtE x1 s) * wdcF x9 x11 x
    + msk 0 (dtE x1 s) * subE (tabF x8 x11 1 x) (tabF x8 x11 0 x)
    + msk (Ideal.ofBits FTy.f32 1056964608#32) (dtE x1 s) * subE (tabF x8 x11 2 x) (tabF x8 x11 1 x)
    + msk 1 (dtE x1 s) * subE (tabF x8 x11 3 x) (tabF x8 x11 2 x)
    + msk (Ideal.ofBits FTy.f32 1073741824#32) (dtE x1 s) * subE (tabF x8 x11 4 x) (tabF x8 x11 3 x)
    + msk (Ideal.ofBits FTy.f32 1082130432#32) (dtE x1 s) * subE (tabF x8 x11 5 x) (tabF x8 x11 4 x)
    + msk (Ideal.ofBits FTy.f32 1090519040#32) (dtE x1 s) * subE (tabF x8 x11 6 x) (tabF x8 x11 5 x)
    + msk (Ideal.ofBits FTy.f32 1094713344#32) (dtE x1 s) * subE (tabF x8 x11 7 x) (tabF x8 x11 6 x)
    + msk (Ideal.ofBits FTy.f32 1103101952#32) (dtE x1 s) * subE (tabF x8 x11 8 x) (tabF x8 x11 7 x)

/-- A projection of features to one number. -/
def prE (tc : Fin 1024 → EReal) (w : FVec Ideal S1024x128 .f32) (b : FVec Ideal S128 .f32) (x : Fin 128) : EReal :=
  (∑ k : Fin 1024, tc k * w (ix2 k x)) + b (ix1 x)

/-- One head of a pair at a row and lane, from its inputs as functions. -/
def headF (q k v : Fin 2048 → Fin 1024 → EReal) (off ps : Fin 16 → Fin 2048 → Fin 8 → EReal) (el : Fin 2048 → EReal)
    (an : Fin 8 → EReal) (dc cb : Fin 16 → Fin 8 → EReal) (b : Fin 8) (s : Fin 2048) (g : Fin 8) (l : Fin 128) (h : Fin 2) :
    EReal :=
  rowOut (fun x => scl (q s (dcol g x))) (fun j x => k (wi b j) (dcol g x)) (fun j x => v (wi b j) (dcol g x)) (mkE h) (natE s)
    (fun j => natE (winStart b + j)) (fun j => el (wi b j)) (el s) (off (hd g h) s) an (ps (hd g h) s) (cb (hd g h))
    (dc (hd g h)) l

variable (m : (ℓ : Loc nD τ sig) → Buf (Elt Ideal) ℓ) (ρ : Dev nD → PrngReg) (c : Dev nD)

/-- The projected array at a column of its part `o`. -/
theorem proj_part (x : FVec Ideal S2048x1024 .f32) (w : FVec Ideal S1024x4096 .f32) (b : FVec Ideal S4x1x1024 .f32)
    (s : Fin 2048) (o : Fin 4) (d : Fin 1024) (col : Fin 4096) (hc : col.val = 1024 * o.val + d.val) :
    proj x w b (ix2 s col) = (∑ k : Fin 1024, x (ix2 s k) * w (ix2 k col)) + b (ix3 o 0 d) := by
  unfold proj
  refine congrArg₂ _ rfl (congrArg₂ (fun o d => b (ix3 o 0 d)) (Fin.ext ?_) (Fin.ext ?_))
  · show col.val / 1024 = o.val
    omega
  · show col.val % 1024 = d.val
    omega

/-- The projected array at the second region's entry. -/
theorem v25_3 : V3 m ρ c main_v25 = proj (V1 m ρ c main_v0) (V1 m ρ c main_v18) (V1 m ρ c main_v24) :=
  (W3_of m ρ c main_v25 (by decide)).trans ((W2_arr m ρ c 3).trans (final0 (V1 m ρ) c))

/-- The projected array at the third region's entry. -/
theorem v25_11 : V11 m ρ c main_v25 = proj (V1 m ρ c main_v0) (V1 m ρ c main_v18) (V1 m ρ c main_v24) :=
  (W11_of m ρ c main_v25 (by decide)).trans <| (W10_of m ρ c main_v25 (by decide)).trans <| (W9_of m ρ c main_v25 (by decide)).trans <| (W8_of m ρ c main_v25 (by decide)).trans <| (W7_of m ρ c main_v25 (by decide)).trans <| (W6_of m ρ c main_v25 (by decide)).trans <| (W5_of m ρ c main_v25 (by decide)).trans <|
  (W4_of m ρ c main_v25 (by decide)).trans (v25_3 m ρ c)

/-- The queries. -/
theorem q_11 (s g x) : V11 m ρ c main_v25 (ix2 s (pcol 0 g x))
    = lin (m (c.tc.loc main_arg0)) (m (c.tc.loc main_arg2)) (m (c.tc.loc main_arg3)) s (dcol g x) := by
  have e : pcol 0 g x = ⟨(dcol g x : Nat), by omega⟩ := Fin.ext (by simp [pcol, dcol])
  rw [v25_11, proj_part _ _ _ _ 0 (dcol g x) _ (Nat.add_assoc _ _ _)]
  refine congrArg₂ (fun a b : EReal => a + b) (Finset.sum_congr rfl fun k _ => congrArg₂ (fun a b : EReal => a * b)
    (h0_v0 _ s k) ?_) (h0_v24_0 _ _)
  rw [e]
  exact h0_v18_0 _ k (dcol g x)

/-- The keys. -/
theorem k_11 (s g x) : V11 m ρ c main_v25 (ix2 s (pcol 1 g x))
    = lin (m (c.tc.loc main_arg0)) (m (c.tc.loc main_arg4)) (m (c.tc.loc main_arg5)) s (dcol g x) := by
  have e : pcol 1 g x = ⟨1024 + (dcol g x : Nat), by omega⟩ := Fin.ext (by simp [pcol, dcol]; omega)
  rw [v25_11, proj_part _ _ _ _ 1 (dcol g x) _ (Nat.add_assoc _ _ _)]
  refine congrArg₂ (fun a b : EReal => a + b) (Finset.sum_congr rfl fun k _ => congrArg₂ (fun a b : EReal => a * b)
    (h0_v0 _ s k) ?_) (h0_v24_1 _ _)
  rw [e]
  exact h0_v18_1 _ k (dcol g x)

/-- The values. -/
theorem v_11 (s g x) : V11 m ρ c main_v25 (ix2 s (pcol 2 g x))
    = lin (m (c.tc.loc main_arg0)) (m (c.tc.loc main_arg6)) (m (c.tc.loc main_arg7)) s (dcol g x) := by
  have e : pcol 2 g x = ⟨2048 + (dcol g x : Nat), by omega⟩ := Fin.ext (by simp [pcol, dcol]; omega)
  rw [v25_11, proj_part _ _ _ _ 2 (dcol g x) _ (Nat.add_assoc _ _ _)]
  refine congrArg₂ (fun a b : EReal => a + b) (Finset.sum_congr rfl fun k _ => congrArg₂ (fun a b : EReal => a * b)
    (h0_v0 _ s k) ?_) (h0_v24_2 _ _)
  rw [e]
  exact h0_v18_2 _ k (dcol g x)

/-- The features' part of the projected array, with its bias. -/
theorem t_3 (s : Fin 2048) (x : Fin 1024) : V3 m ρ c main_v25 (ix2 s ⟨3072 + (x : Nat), Nat.add_lt_add_left x.isLt 3072⟩)
    = linT (m (c.tc.loc main_arg0)) (m (c.tc.loc main_arg11)) s x
      + addE (addE ((m (c.tc.loc main_arg12) : FVec Ideal S1024 .f32) (ix1 x)) (bdtF (m (c.tc.loc main_arg10)) (m (c.tc.loc main_arg11)) x)) (tabF (m (c.tc.loc main_arg8)) (m (c.tc.loc main_arg11)) 0 x) := by
  rw [v25_3, proj_part _ _ _ _ 3 x _ rfl]
  exact congrArg₂ (fun a b : EReal => a + b) (Finset.sum_congr rfl fun k _ => congrArg₂ (fun a b : EReal => a * b)
    (h0_v0 _ s k) (h0_v18_3 _ k x)) (h0_v24_3 _ x)

/-- A result of the first host operations that no region writes, at the second region's entry. -/
theorem keep3 (r : Ref sig .tc) (h : r ∉ hostOps1_W)
    (h' : ∀ w : Fin cfg0.W, Pipeline.arrRef spec0 w = r → (cfg0.win w).isOut = false) :
    W3 m ρ c (Proc.devRef .tc r) = W1 m ρ c (Proc.devRef .tc r) :=
  (W3_of m ρ c r h).trans (W2_of m ρ c r h')

/-- The features at a row and column. -/
theorem tc_3 (s : Fin 2048) (x : Fin 1024) :
    tcv (V3 m ρ c main_v25) (V3 m ρ c main_v2) (V3 m ρ c main_v7) (V3 m ρ c main_v17) s x = tcK (m (c.tc.loc main_arg0)) (m (c.tc.loc main_arg1)) (m (c.tc.loc main_arg8)) (m (c.tc.loc main_arg9)) (m (c.tc.loc main_arg10)) (m (c.tc.loc main_arg11)) (m (c.tc.loc main_arg12)) s x := by
  have h2 : V3 m ρ c main_v2 (ix2 s 0) = (m (c.tc.loc main_arg1)) (ix2 0 s) :=
    (congrFun (keep3 m ρ c main_v2 (by decide) (by decide)) _).trans (h0_v2 _ s)
  have h7 : V3 m ρ c main_v7 (ix3 0 0 x) = wdcF (m (c.tc.loc main_arg9)) (m (c.tc.loc main_arg11)) x :=
    (congrFun (keep3 m ρ c main_v7 (by decide) (by decide)) _).trans (h0_v7 _ x)
  have h17 : ∀ j : Fin 8, V3 m ρ c main_v17 (ix3 j 0 x) = subE (tabF (m (c.tc.loc main_arg8)) (m (c.tc.loc main_arg11)) j.succ x) (tabF (m (c.tc.loc main_arg8)) (m (c.tc.loc main_arg11)) j.castSucc x) :=
    fun j => (congrFun (keep3 m ρ c main_v17 (by decide) (by decide)) _).trans (h0_v17 _ j x)
  unfold tcv
  rw [t_3, h2, h7]
  simp only [h17]
  rfl

/-- The offsets. -/
theorem off_11 (h : Fin 16) (s : Fin 2048) (p : Fin 8) : V11 m ρ c main_v32 (ix3 h s p)
    = Ideal.tanh (prE (tcK (m (c.tc.loc main_arg0)) (m (c.tc.loc main_arg1)) (m (c.tc.loc main_arg8)) (m (c.tc.loc main_arg9)) (m (c.tc.loc main_arg10)) (m (c.tc.loc main_arg11)) (m (c.tc.loc main_arg12)) s) (m (c.tc.loc main_arg13)) (m (c.tc.loc main_arg14)) (hcol h p)) := by
  have e : V11 m ρ c main_v32 = W5 m ρ c main_v32 := (W11_of m ρ c main_v32 (by decide)).trans <| (W10_of m ρ c main_v32 (by decide)).trans <| (W9_of m ρ c main_v32 (by decide)).trans <| (W8_of m ρ c main_v32 (by decide)).trans <| (W7_of m ρ c main_v32 (by decide)).trans <| (W6_of m ρ c main_v32 (by decide)).trans <| rfl
  rw [e]
  refine (h2_v32 _ h s p).trans ?_
  refine (congrFun ((W4_arr m ρ c 7).trans (final1_7 (V3 m ρ) c)) (ix2 s (hcol h p))).trans ?_
  have hw : V3 m ρ c main_arg13 = m (c.tc.loc main_arg13) := W3_args m ρ c main_arg13 (by decide)
  unfold offv prE
  refine congrArg Ideal.tanh (congrArg₂ (fun a b : EReal => a + b) (Finset.sum_congr rfl fun k _ => ?_)
    ((h1_v29_0 _ (hcol h p)).trans (congrFun (W2_args m ρ c main_arg14 (by decide)) _)))
  rw [hw]
  exact congrArg₂ (fun a b : EReal => a * b) (tc_3 m ρ c s k) rfl

/-- The point scores. -/
theorem ps_11 (h : Fin 16) (s : Fin 2048) (p : Fin 8) : V11 m ρ c main_v34 (ix3 h s p)
    = prE (tcK (m (c.tc.loc main_arg0)) (m (c.tc.loc main_arg1)) (m (c.tc.loc main_arg8)) (m (c.tc.loc main_arg9)) (m (c.tc.loc main_arg10)) (m (c.tc.loc main_arg11)) (m (c.tc.loc main_arg12)) s) (m (c.tc.loc main_arg15)) (m (c.tc.loc main_arg16)) (hcol h p) := by
  have e : V11 m ρ c main_v34 = W5 m ρ c main_v34 := (W11_of m ρ c main_v34 (by decide)).trans <| (W10_of m ρ c main_v34 (by decide)).trans <| (W9_of m ρ c main_v34 (by decide)).trans <| (W8_of m ρ c main_v34 (by decide)).trans <| (W7_of m ρ c main_v34 (by decide)).trans <| (W6_of m ρ c main_v34 (by decide)).trans <| rfl
  rw [e]
  refine (h2_v34 _ h s p).trans ?_
  refine (congrFun ((W4_arr m ρ c 8).trans (final1_8 (V3 m ρ) c)) (ix2 s (hcol h p))).trans ?_
  have hw : V3 m ρ c main_arg15 = m (c.tc.loc main_arg15) := W3_args m ρ c main_arg15 (by decide)
  unfold psv prE
  refine (congrArg₂ (fun a b : EReal => a + b) (Finset.sum_congr rfl fun k _ => ?_)
    ((h1_v29_1 _ (hcol h p)).trans (congrFun (W2_args m ρ c main_arg16 (by decide)) _)))
  rw [hw]
  exact congrArg₂ (fun a b : EReal => a * b) (tc_3 m ρ c s k) rfl

set_option maxRecDepth 65536 in
/-- The elapsed times. -/
theorem el_6 : W6 m ρ c main_v38 = ReferenceIdeal.Read.val_main_v192 (m (c.tc.loc main_arg1)) :=
  h2_1_v38 _ _ ((h2_v37 _).trans (congrArg ReferenceIdeal.Read.val_main_v21 (W4_args m ρ c main_arg1 (by decide))))

/-- The elapsed times at each block's window. -/
theorem elw_11 (b j) : V11 m ρ c main_v57 (ix3 b 0 j)
    = ReferenceIdeal.Read.val_main_v192 (F := Ideal) (m (c.tc.loc main_arg1)) (ix1 (wi b j)) := by
  have e : V11 m ρ c main_v57 = W7 m ρ c main_v57 := (W11_of m ρ c main_v57 (by decide)).trans <| (W10_of m ρ c main_v57 (by decide)).trans <| (W9_of m ρ c main_v57 (by decide)).trans <| (W8_of m ρ c main_v57 (by decide)).trans <| rfl
  rw [e]
  exact (h2_2_v57 _ b j).trans (congrFun (el_6 m ρ c) _)

/-- The elapsed times at each row. -/
theorem elq_11 (s) : V11 m ρ c main_v39 (ix2 s 0)
    = ReferenceIdeal.Read.val_main_v192 (F := Ideal) (m (c.tc.loc main_arg1)) (ix1 s) := by
  have e : V11 m ρ c main_v39 = W7 m ρ c main_v39 := (W11_of m ρ c main_v39 (by decide)).trans <| (W10_of m ρ c main_v39 (by decide)).trans <| (W9_of m ρ c main_v39 (by decide)).trans <| (W8_of m ρ c main_v39 (by decide)).trans <| rfl
  rw [e]
  exact (h2_2_v39 _ s).trans (congrFun (el_6 m ρ c) _)

/-- The anchors. -/
theorem an_11 (p) : V11 m ρ c main_v65 (ix2 0 p) = ReferenceIdeal.Read.val_main_v94 (F := Ideal) (ix1 p) := by
  have e : V11 m ρ c main_v65 = W9 m ρ c main_v65 := (W11_of m ρ c main_v65 (by decide)).trans <| (W10_of m ρ c main_v65 (by decide)).trans <| rfl
  rw [e]
  exact h2_4_v65 _ (h2_3_v58 _ (h2_2_cst_0 _) (h2_2_cst_1 _)) p

/-- The time coefficients. -/
theorem dc_11 (h p) : V11 m ρ c main_v67 (ix3 h 0 p)
    = ReferenceIdeal.Read.val_main_v218 (F := Ideal) (m (c.tc.loc main_arg20)) (ix2 h p) :=
  (h2_6_v67 _ h p).trans (congrFun ((h2_5_v66 _).trans (congrArg ReferenceIdeal.Read.val_main_v218
    (W9_args m ρ c main_arg20 (by decide)))) _)

/-- The points' biases. -/
theorem cb_11 (h p) : V11 m ρ c main_v69 (ix3 h 0 p)
    = addE ((m (c.tc.loc main_arg21) : FVec Ideal S16x8 .f32) (ix2 h p)) ((m (c.tc.loc main_arg19) : FVec Ideal S16x8 .f32) (ix2 h p)) :=
  (h2_6_v69 _ h p).trans (congrArg₂ addE (congrFun (W10_args m ρ c main_arg21 (by decide)) _)
    (congrFun (W10_args m ρ c main_arg19 (by decide)) _))

/-- One head of the kernel at a row and lane, of its arguments. -/
def headK (b : Fin 8) (s : Fin 2048) (g : Fin 8) (l : Fin 128) (h : Fin 2) : EReal :=
  headF (lin (m (c.tc.loc main_arg0)) (m (c.tc.loc main_arg2)) (m (c.tc.loc main_arg3))) (lin (m (c.tc.loc main_arg0)) (m (c.tc.loc main_arg4)) (m (c.tc.loc main_arg5))) (lin (m (c.tc.loc main_arg0)) (m (c.tc.loc main_arg6)) (m (c.tc.loc main_arg7)))
    (fun h s p => Ideal.tanh (prE (tcK (m (c.tc.loc main_arg0)) (m (c.tc.loc main_arg1)) (m (c.tc.loc main_arg8)) (m (c.tc.loc main_arg9)) (m (c.tc.loc main_arg10)) (m (c.tc.loc main_arg11)) (m (c.tc.loc main_arg12)) s) (m (c.tc.loc main_arg13)) (m (c.tc.loc main_arg14)) (hcol h p)))
    (fun h s p => prE (tcK (m (c.tc.loc main_arg0)) (m (c.tc.loc main_arg1)) (m (c.tc.loc main_arg8)) (m (c.tc.loc main_arg9)) (m (c.tc.loc main_arg10)) (m (c.tc.loc main_arg11)) (m (c.tc.loc main_arg12)) s) (m (c.tc.loc main_arg15)) (m (c.tc.loc main_arg16)) (hcol h p))
    (fun s => ReferenceIdeal.Read.val_main_v192 (F := Ideal) (m (c.tc.loc main_arg1)) (ix1 s))
    (fun p => ReferenceIdeal.Read.val_main_v94 (F := Ideal) (ix1 p))
    (fun h p => ReferenceIdeal.Read.val_main_v218 (F := Ideal) (m (c.tc.loc main_arg20)) (ix2 h p))
    (fun h p => addE ((m (c.tc.loc main_arg21) : FVec Ideal S16x8 .f32) (ix2 h p)) ((m (c.tc.loc main_arg19) : FVec Ideal S16x8 .f32) (ix2 h p)))
    b s g l h

/-- Rows of equal inputs are equal. -/
theorem rowOut_congr {Q Q' K K' U U' M qp jf el el' elq elq' off off' an an' ps ps' cb cb' dc dc' l}
    (hQ : Q = Q') (hK : K = K') (hU : U = U') (he : el = el') (hq : elq = elq') (ho : off = off') (ha : an = an')
    (hp : ps = ps') (hc : cb = cb') (hd : dc = dc') :
    rowOut Q K U M qp jf el elq off an ps cb dc l = rowOut Q' K' U' M qp jf el' elq' off' an' ps' cb' dc' l := by
  subst hQ hK hU he hq ho ha hp hc hd
  rfl

/-- A head at the third region's entry is the head of the arguments. -/
theorem headAt_11 (b s g l h) : headAt (V11 m ρ c main_v25) (V11 m ρ c main_v32) (V11 m ρ c main_v34) (V11 m ρ c main_v57)
    (V11 m ρ c main_v39) (V11 m ρ c main_v65) (V11 m ρ c main_v67) (V11 m ρ c main_v69) b s g l h = headK m c b s g l h := by
  unfold headAt headK headF
  exact rowOut_congr (funext fun x => congrArg scl (q_11 m ρ c s g x)) (funext fun j => funext fun x => k_11 m ρ c _ g x)
    (funext fun j => funext fun x => v_11 m ρ c _ g x) (funext fun j => elw_11 m ρ c b j) (elq_11 m ρ c s)
    (funext fun p => off_11 m ρ c _ s p) (funext fun p => an_11 m ρ c p) (funext fun p => ps_11 m ρ c _ s p)
    (funext fun p => cb_11 m ρ c _ p) (funext fun p => dc_11 m ρ c _ p)

/-- The attention's result at an index: the two heads of the column's pair. -/
def attK (s : Fin 2048) (d : Fin 1024) : EReal :=
  headK m c ⟨(s : Nat) / 256, Nat.div_lt_of_lt_mul s.isLt⟩ s ⟨(d : Nat) / 128, Nat.div_lt_of_lt_mul d.isLt⟩
      ⟨(d : Nat) % 128, Nat.mod_lt _ (by decide)⟩ 0
    + headK m c ⟨(s : Nat) / 256, Nat.div_lt_of_lt_mul s.isLt⟩ s ⟨(d : Nat) / 128, Nat.div_lt_of_lt_mul d.isLt⟩
      ⟨(d : Nat) % 128, Nat.mod_lt _ (by decide)⟩ 1

/-- The kernel's result at an index. -/
theorem v73_15 (s : Fin 2048) (x : Fin 1024) : W15 m ρ c main_v73 (ix3 0 s x)
    = (∑ d : Fin 1024, attK m c s d * (m (c.tc.loc main_arg17) : FVec Ideal S1024x1024 .f32) (ix2 d x))
      + (m (c.tc.loc main_arg18) : FVec Ideal S1024 .f32) (ix1 x) := by
  refine (h4_v73 _ s x).trans ?_
  refine (congrFun ((W14_arr m ρ c 3).trans (final3 (V13 m ρ) c)) (ix2 s x)).trans ?_
  have h70 : ∀ d, V13 m ρ c main_v70 (ix2 s d) = attK m c s d := fun d =>
    (congrFun ((W13_of m ρ c main_v70 (by decide)).trans ((W12_arr m ρ c 10).trans (final2 (V11 m ρ) c))) (ix2 s d)).trans
      (congrArg₂ (fun a b : EReal => a + b) (headAt_11 m ρ c _ s _ _ 0) (headAt_11 m ρ c _ s _ _ 1))
  have h17 : V13 m ρ c main_arg17 = m (c.tc.loc main_arg17) := W13_args m ρ c main_arg17 (by decide)
  have h71 : V13 m ρ c main_v71 (ix2 0 x) = (m (c.tc.loc main_arg18) : FVec Ideal S1024 .f32) (ix1 x) :=
    (h3_v71 _ x).trans (congrFun (W12_args m ρ c main_arg18 (by decide)) _)
  unfold outp
  refine congrArg₂ (fun a b : EReal => a + b) (Finset.sum_congr rfl fun k _ => ?_) h71
  rw [h17]
  exact congrArg₂ (fun a b : EReal => a * b) (h70 k) rfl

end Cert.KernelIdeal.Val
-- ==== Proof.AttnMath.lean ====
module

public import proofs.«01_k».proof.Proof.Finite
public import proofs.«01_k».proof.Proof.KVal

/-!
One head of the kernel's attention, a sum over a window of 512 rows weighted by tents, is the head that samples keys and
values by linear interpolation between two neighbouring rows, when every sampling position and its right neighbour lie in
the window and all the numbers but the values are finite.
-/

@[expose] public section

set_option maxRecDepth 16384

noncomputable section

open Idealize.ShloMosaic Cert.Math

namespace Cert.KernelIdeal.Val

/-- A number capped at 2047 is a row. -/
theorem min_lt_2048 (n : ℕ) : min n 2047 < 2048 := by omega

/-- A head's coordinate is a column. -/
theorem ecol_lt (h : Fin 16) (e : Fin 64) : 64 * (h : ℕ) + e < 1024 := by omega

/-- A natural number held below 2048. -/
def clampF (n : ℕ) : Fin 2048 := ⟨min n 2047, min_lt_2048 n⟩

/-- The row left of a position. -/
def lf (x : EReal) : Fin 2048 := clampF ⌊x.toReal⌋₊

/-- The row right of a position. -/
def rt (x : EReal) : Fin 2048 := clampF (⌊x.toReal⌋₊ + 1)

/-- A position's distance from the row left of it. -/
def al (x : EReal) : EReal := x - natE (lf x)

/-- Linear interpolation of `f` at a position. -/
def mix (x : EReal) (f : Fin 2048 → EReal) : EReal := f (lf x) * (1 - al x) + f (rt x) * al x

/-- The column of the coordinate `e` of the head `h`. -/
def ecol (h : Fin 16) (e : Fin 64) : Fin 1024 := ⟨64 * (h : ℕ) + e, ecol_lt h e⟩

/-- A logit of the attention that samples by interpolation. -/
def lgR (q k : Fin 2048 → Fin 1024 → EReal) (el : Fin 2048 → EReal) (h : Fin 16) (s : Fin 2048) (sp ps dc tb pb : EReal) :
    EReal :=
  (((∑ e : Fin 64, q s (ecol h e) * mix sp (fun i => k i (ecol h e))) * Ideal.ofBits FTy.f32 1040187392#32 + ps)
    + (tb - dc * Ideal.log1p (max (el s - mix sp el) 0))) + pb

/-- One head of the attention that samples by interpolation. -/
def refHead (q k v : Fin 2048 → Fin 1024 → EReal) (off ps : Fin 16 → Fin 2048 → Fin 8 → EReal) (el : Fin 2048 → EReal)
    (an : Fin 8 → EReal) (dc tb pb : Fin 16 → Fin 8 → EReal) (h : Fin 16) (s : Fin 2048) (e : Fin 64) : EReal :=
  ∑ p, smx (fun p => lgR q k el h s (spE (natE s) (off h s p) (an p)) (ps h s p) (dc h p) (tb h p) (pb h p)) p
    * mix (spE (natE s) (off h s p) (an p)) (fun i => v i (ecol h e))

/-- The interpolation over the reals. -/
def mixR (s : ℝ) (f : Fin 2048 → ℝ) : ℝ :=
  f (clampF ⌊s⌋₊) * (1 - (s - (clampF ⌊s⌋₊ : Fin 2048).val)) + f (clampF (⌊s⌋₊ + 1)) * (s - (clampF ⌊s⌋₊ : Fin 2048).val)

/-- Interpolation of real values at a real position is the interpolation over the reals. -/
theorem mix_coe (s : ℝ) (f : Fin 2048 → ℝ) : mix (s : EReal) (fun i => (f i : EReal)) = ((mixR s f : ℝ) : EReal) := by
  unfold mix mixR al lf rt natE
  rw [EReal.toReal_coe, EReal.coe_add, EReal.coe_mul, EReal.coe_mul, EReal.coe_sub, EReal.coe_sub]
  rfl

/-- Interpolation of real values at a real position is real. -/
theorem IsR.mix {x : EReal} (hx : IsR x) {f : Fin 2048 → EReal} (hf : ∀ i, IsR (f i)) : IsR (mix x f) := by
  obtain ⟨s, rfl⟩ := hx
  choose g hg using hf
  obtain rfl : f = fun i => (g i : EReal) := funext hg
  rw [mix_coe]; exact .coe _

/-- The tent at real arguments is the tent over the reals. -/
theorem hatE_coe (s : ℝ) (n : ℕ) : hatE (natE n) (s : EReal) = ((hat s n : ℝ) : EReal) := by
  unfold hatE natE absE hat
  rw [coe_max', EReal.coe_sub, abs_eq_max_neg, coe_max', EReal.coe_neg, EReal.coe_sub]
  rfl

/-- A sum over the window weighted by the tent at a position is the interpolation at that position. -/
theorem hat_mix (b : Fin 8) (s : ℝ) (f : Fin 2048 → ℝ) (h0 : (winStart b : ℝ) ≤ s) (h1 : s + 1 ≤ (winStart b : ℝ) + 512)
    (h2 : s ≤ 2047) : ∑ j : Fin 512, hat s (winStart b + j) * f (wi b j) = mixR s f := by
  have h := hat_sum 512 (winStart b) 2047 (fun n => f (clampF n)) s h0 (by exact_mod_cast h1) (by exact_mod_cast h2)
  have hw : ∀ j : Fin 512, clampF (winStart b + j) = wi b j := fun j => Fin.ext (by
    have := winStart_lt b j
    show min (winStart b + j) 2047 = winStart b + j
    omega)
  simp only [hw] at h
  rw [h]
  have hs : (0 : ℝ) ≤ s := le_trans (Nat.cast_nonneg _) h0
  have hf : ⌊s⌋₊ ≤ 2047 := by
    have := Nat.floor_le_floor h2
    simpa using this
  have hv : (clampF ⌊s⌋₊ : Fin 2048).val = ⌊s⌋₊ := min_eq_left hf
  have hm : clampF (min (⌊s⌋₊ + 1) 2047) = clampF (⌊s⌋₊ + 1) := Fin.ext (by show min (min _ _) _ = _; simp [clampF])
  unfold mixR frac
  rw [hv, hm]

/-- The rows of the window are different. -/
theorem wi_inj (b : Fin 8) {i j : Fin 512} (h : wi b i = wi b j) : i = j := by
  have := congrArg Fin.val h
  exact Fin.ext (Nat.add_left_cancel this)

/-- A tent is the share of its row in the interpolation. -/
theorem hat_share (b : Fin 8) (s : ℝ) (h0 : (winStart b : ℝ) ≤ s) (h1 : s + 1 ≤ (winStart b : ℝ) + 512) (h2 : s ≤ 2047)
    (j : Fin 512) : hat s (winStart b + j)
      = (if wi b j = clampF ⌊s⌋₊ then 1 - (s - (clampF ⌊s⌋₊ : Fin 2048).val) else 0)
        + (if wi b j = clampF (⌊s⌋₊ + 1) then s - (clampF ⌊s⌋₊ : Fin 2048).val else 0) := by
  have h := hat_mix b s (fun i => if wi b j = i then 1 else 0) h0 h1 h2
  rw [Finset.sum_eq_single j (fun i _ hi => by rw [if_neg fun e => hi (wi_inj b e).symm, mul_zero])
    (fun hj => absurd (Finset.mem_univ j) hj), if_pos rfl, mul_one] at h
  rw [h]
  unfold mixR
  simp only [ite_mul, one_mul, zero_mul]

/-- One row's share, summed over the window, is the share times the row's value, if the row lies in the window or has none. -/
theorem sum_row (b : Fin 8) (n : Fin 2048) (a : ℝ) (f : Fin 2048 → EReal) (h : (∃ j, wi b j = n) ∨ a = 0) :
    ∑ j : Fin 512, ((if wi b j = n then a else 0 : ℝ) : EReal) * f (wi b j) = (a : EReal) * f n := by
  rcases h with ⟨j, rfl⟩ | rfl
  · rw [Finset.sum_eq_single j (fun i _ hi => by rw [if_neg fun e => hi (wi_inj b e), EReal.coe_zero, zero_mul])
      (fun hj => absurd (Finset.mem_univ j) hj), if_pos rfl]
  · simp only [ite_self, EReal.coe_zero, zero_mul, Finset.sum_const_zero]

/-- The same over extended reals, of any values. -/
theorem hatE_mix (b : Fin 8) (s : ℝ) (f : Fin 2048 → EReal) (h0 : (winStart b : ℝ) ≤ s)
    (h1 : s + 1 ≤ (winStart b : ℝ) + 512) (h2 : s ≤ 2047) :
    ∑ j : Fin 512, hatE (natE (winStart b + j)) (s : EReal) * f (wi b j) = mix (s : EReal) f := by
  have hs : (0 : ℝ) ≤ s := le_trans (Nat.cast_nonneg _) h0
  have hf : ⌊s⌋₊ ≤ 2047 := by
    have := Nat.floor_le_floor h2
    simpa using this
  have hv : (clampF ⌊s⌋₊ : Fin 2048).val = ⌊s⌋₊ := min_eq_left hf
  have hl : winStart b ≤ ⌊s⌋₊ := Nat.le_floor h0
  have hle := Nat.floor_le hs
  have hlt := Nat.lt_floor_add_one s
  have hn : ⌊s⌋₊ + 1 ≤ winStart b + 512 := by
    have : ((⌊s⌋₊ + 1 : ℕ) : ℝ) ≤ ((winStart b + 512 : ℕ) : ℝ) := by push_cast; linarith
    exact_mod_cast this
  have ha0 : 0 ≤ s - (clampF ⌊s⌋₊ : Fin 2048).val := by rw [hv]; linarith
  have ha1 : 0 ≤ 1 - (s - (clampF ⌊s⌋₊ : Fin 2048).val) := by rw [hv]; linarith
  have e : ∀ j : Fin 512, hatE (natE (winStart b + j)) (s : EReal) * f (wi b j)
      = ((if wi b j = clampF ⌊s⌋₊ then 1 - (s - (clampF ⌊s⌋₊ : Fin 2048).val) else 0 : ℝ) : EReal) * f (wi b j)
        + ((if wi b j = clampF (⌊s⌋₊ + 1) then s - (clampF ⌊s⌋₊ : Fin 2048).val else 0 : ℝ) : EReal) * f (wi b j) := fun j => by
    rw [hatE_coe, hat_share b s h0 h1 h2 j, EReal.coe_add]
    exact EReal.right_distrib_of_nonneg (EReal.coe_nonneg.2 (by split_ifs <;> first | exact ha1 | exact le_rfl))
      (EReal.coe_nonneg.2 (by split_ifs <;> first | exact ha0 | exact le_rfl))
  simp only [e]
  rw [Finset.sum_add_distrib, sum_row, sum_row]
  · unfold mix al lf rt natE
    rw [EReal.toReal_coe, EReal.coe_sub, EReal.coe_sub, mul_comm (f _), mul_comm (f _)]
    rfl
  · by_cases hr : ⌊s⌋₊ + 1 < winStart b + 512 ∨ ⌊s⌋₊ = 2047
    · left
      have hw : winStart b ≤ 1536 := Nat.min_le_left _ _
      refine ⟨⟨min (⌊s⌋₊ + 1) 2047 - winStart b, by omega⟩, Fin.ext ?_⟩
      show winStart b + (min (⌊s⌋₊ + 1) 2047 - winStart b) = min (⌊s⌋₊ + 1) 2047
      omega
    · right
      have hq : ⌊s⌋₊ + 1 = winStart b + 512 := by omega
      have hq' : (⌊s⌋₊ : ℝ) + 1 = (winStart b : ℝ) + 512 := by exact_mod_cast hq
      rw [hv]; linarith
  · left
    refine ⟨⟨⌊s⌋₊ - winStart b, by omega⟩, Fin.ext ?_⟩
    show winStart b + (⌊s⌋₊ - winStart b) = (clampF ⌊s⌋₊ : Fin 2048).val
    rw [hv]; omega

/-- Interpolating a product of a query with the keys is the product with the interpolated keys. -/
theorem mix_dot (x : EReal) (hx : IsR x) (q : Fin 64 → EReal) (k : Fin 2048 → Fin 64 → EReal) (hq : ∀ e, IsR (q e))
    (hk : ∀ i e, IsR (k i e)) :
    mix x (fun i => ∑ e, scl (q e) * k i e) = (∑ e, q e * mix x (fun i => k i e)) * Ideal.ofBits FTy.f32 1040187392#32 := by
  obtain ⟨s, rfl⟩ := hx
  choose q' hq using hq
  choose k' hk using hk
  obtain rfl : q = fun e => (q' e : EReal) := funext hq
  obtain rfl : k = fun i e => (k' i e : EReal) := funext fun i => funext (hk i)
  have hl : ∀ i, ∑ e, scl ((fun e => (q' e : EReal)) e) * (k' i e : EReal) = ((∑ e, q' e * (1 / 8) * k' i e : ℝ) : EReal) := fun i => by
    rw [coe_sum']
    refine Finset.sum_congr rfl fun e _ => ?_
    unfold scl
    rw [ofBits_8th, EReal.coe_mul, EReal.coe_mul]
  simp only [hl, mix_coe, ← EReal.coe_mul, ← coe_sum', ofBits_8th]
  congr 1
  unfold mixR
  rw [Finset.sum_mul, Finset.sum_mul, ← Finset.sum_add_distrib, Finset.sum_mul]
  exact Finset.sum_congr rfl fun e _ => by ring

/-- A lane's mask is one on the head's lanes. -/
theorem mkE_in (h : Fin 2) (e : Fin 64) (l : Fin 128) (hl : l.val = 64 * h + e) : mkE h l = 1 := by
  unfold mkE; rw [if_pos (by omega)]

/-- A lane's mask is zero off the head's lanes. -/
theorem mkE_out (h : Fin 2) (l : Fin 128) (hl : ¬(64 * (h : ℕ) ≤ l ∧ (l : ℕ) < 64 * (h + 1))) : mkE h l = 0 := by
  unfold mkE; rw [if_neg hl]

/-- A masked sum over the lanes of a pair of heads is the sum over the head's own. -/
theorem lanes (q k : Fin 1024 → EReal) (g : Fin 8) (h : Fin 2) :
    ∑ x : Fin 128, scl (q (dcol g x)) * (k (dcol g x) * mkE h x)
      = ∑ e : Fin 64, scl (q (ecol (hd g h) e)) * k (ecol (hd g h) e) := by
  rw [sum_half _ h fun l hl => by rw [mkE_out h l hl, mul_zero, mul_zero]]
  refine Finset.sum_congr rfl fun e _ => ?_
  have hc : ∀ (hx : 64 * (h : ℕ) + e < 128), dcol g ⟨64 * (h : ℕ) + e, hx⟩ = ecol (hd g h) e := fun hx => Fin.ext (by
    show 128 * (g : ℕ) + (64 * (h : ℕ) + e) = 64 * (2 * (g : ℕ) + h) + e
    omega)
  rw [hc, mkE_in h e _ rfl, mul_one]

section

variable (q k v : Fin 2048 → Fin 1024 → EReal) (off ps : Fin 16 → Fin 2048 → Fin 8 → EReal) (el : Fin 2048 → EReal)
    (an : Fin 8 → EReal) (dc tb pb : Fin 16 → Fin 8 → EReal) (b : Fin 8) (s : Fin 2048) (g : Fin 8) (h : Fin 2)

/-- A kernel's head at a lane that is not its own is zero. -/
theorem headF_out (l : Fin 128) (cb : Fin 16 → Fin 8 → EReal) (hl : ¬(64 * (h : ℕ) ≤ l ∧ (l : ℕ) < 64 * (h + 1))) :
    headF q k v off ps el an dc cb b s g l h = 0 := by
  unfold headF rowOut
  simp only [mkE_out h l hl, mul_zero, Finset.sum_const_zero]

variable (hq : ∀ s d, IsR (q s d)) (hk : ∀ s d, IsR (k s d)) (hps : ∀ h s p, IsR (ps h s p))
  (hel : ∀ s, IsR (el s)) (hdc : ∀ h p, IsR (dc h p)) (htb : ∀ h p, IsR (tb h p)) (hpb : ∀ h p, IsR (pb h p))
  (hsp : ∀ p, ∃ r : ℝ, spE (natE s) (off (hd g h) s p) (an p) = r ∧ (winStart b : ℝ) ≤ r ∧ r + 1 ≤ (winStart b : ℝ) + 512
    ∧ r ≤ 2047)

include hq hk hsp in
/-- The kernel's logits are the interpolating attention's. -/
theorem lg_eq (p : Fin 8) :
    lgE (fun j => ∑ x, scl (q s (dcol g x)) * (k (wi b j) (dcol g x) * mkE h x))
        (fun j => hatE (natE (winStart b + j)) (spE (natE s) (off (hd g h) s p) (an p))) (fun j => el (wi b j)) (el s)
        (ps (hd g h) s p) (addE (tb (hd g h) p) (pb (hd g h) p)) (dc (hd g h) p)
      = lgR q k el (hd g h) s (spE (natE s) (off (hd g h) s p) (an p)) (ps (hd g h) s p) (dc (hd g h) p) (tb (hd g h) p)
        (pb (hd g h) p) := by
  obtain ⟨r, hr, h0, h1, h2⟩ := hsp p
  unfold lgE lgR addE
  rw [hr, hatE_mix b r el h0 h1 h2]
  simp only [lanes (q s) (k _) g h]
  rw [hatE_mix b r (fun i => ∑ e, scl (q s (ecol (hd g h) e)) * k i (ecol (hd g h) e)) h0 h1 h2,
    mix_dot r ⟨r, rfl⟩ (fun e => q s (ecol (hd g h) e)) (fun i e => k i (ecol (hd g h) e)) (fun e => hq _ _) fun i e => hk _ _]
  simp only [sub_eq_add_neg, add_assoc, add_left_comm, add_comm]

include hq hk hps hel hdc htb hpb hsp in
/-- The logits are finite. -/
theorem lgR_real (p : Fin 8) : IsR (lgR q k el (hd g h) s (spE (natE s) (off (hd g h) s p) (an p)) (ps (hd g h) s p)
    (dc (hd g h) p) (tb (hd g h) p) (pb (hd g h) p)) := by
  obtain ⟨r, hr, -⟩ := hsp p
  have hx : IsR (spE (natE s) (off (hd g h) s p) (an p)) := ⟨r, hr⟩
  unfold lgR
  exact ((((IsR.sum _ fun e => (hq _ _).mul (hx.mix fun i => hk _ _)).mul ⟨_, ofBits_8th⟩).add (hps _ _ _)).add
    ((htb _ _).sub ((hdc _ _).mul ((((hel _).sub (hx.mix hel)).max IsR.zero).log1p (le_max_right _ _))))).add (hpb _ _)

include hq hk hps hel hdc htb hpb hsp in
/-- A kernel's head at one of its own lanes is the interpolating head. -/
theorem headF_in (e : Fin 64) (l : Fin 128) (hl : l.val = 64 * h + e) :
    headF q k v off ps el an dc (fun h p => addE (tb h p) (pb h p)) b s g l h
      = refHead q k v off ps el an dc tb pb (hd g h) s e := by
  have hd' : dcol g l = ecol (hd g h) e := Fin.ext (by
    show 128 * (g : ℕ) + l = 64 * (2 * (g : ℕ) + h) + e
    omega)
  unfold headF rowOut refHead
  simp only [lg_eq q k off ps el an dc tb pb b s g h hq hk hsp, mkE_in h e l hl, mul_one, hd']
  have hw := fun p => smx_real (lgR_real q k off ps el an dc tb pb b s g h hq hk hps hel hdc htb hpb hsp) p
  choose w hw0 hw using hw
  choose r hr h0 h1 h2 using hsp
  simp only [hr] at hw
  simp only [hr, hw, hatE_coe, ← EReal.coe_mul, ← coe_sum']
  simp only [coe_sum_mul _ _ fun p => mul_nonneg (hw0 p) (show 0 ≤ hat _ _ from le_max_right _ _)]
  rw [Finset.sum_comm]
  refine Finset.sum_congr rfl fun p _ => ?_
  rw [← hatE_mix b (r p) (fun i => v i (ecol (hd g h) e)) (h0 p) (h1 p) (h2 p), coe_mul_sum _ _ (hw0 p)]
  exact Finset.sum_congr rfl fun j _ => by rw [hatE_coe, EReal.coe_mul, mul_assoc]

end

end Cert.KernelIdeal.Val
-- ==== Proof.RefA.lean ====
module

public import proofs.«01_k».proof.Proof.AttnMath
public import Idealize.ShloMosaic.Lib.Routing.Ops
public import proofs.«01_k».proof.Proof.Gen.ReferenceIdeal.Read

/-! The reference's projections, time features and positions at an index, in terms of its arguments. -/

@[expose] public section

set_option maxRecDepth 16384

noncomputable section

open Idealize.ShloMosaic Cert.Math

namespace Cert.KernelIdeal.Val

open Cert.ReferenceIdeal Cert.ReferenceIdeal.Read

variable (x0 : FVec Ideal S1x2048x1024 .f32) (x1 : FVec Ideal S1x2048 .f32) (x8 : FVec Ideal S9x256 .f32)
  (x9 : FVec Ideal S1x256 .f32) (x10 : FVec Ideal S256 .f32) (x11 : FVec Ideal S1536x1024 .f32) (x12 : FVec Ideal S1024 .f32)

/-- A projection split into heads. -/
theorem r_v6 (w : FVec Ideal S1024x1024 .f32) (b : FVec Ideal S1024 .f32) (h s e) :
    val_main_v6 (F := Ideal) x0 w b (ix3 h s e) = lin x0 w b s (ecol h e) := by
  unfold val_main_v6 val_main_v5 val_main_v4 val_main_v3 val_main_v2 val_main_v1 val_main_v0
  pointwise
  have hc : ∀ (hh : (h : ℕ) * 64 + e < 1024), (⟨(h : ℕ) * 64 + e, hh⟩ : Fin 1024) = ecol h e := fun hh =>
    Fin.ext (congrArg (· + (e : ℕ)) (Nat.mul_comm _ _))
  rw [hc]
  rfl

/-- The keys are projected as the queries are. -/
theorem r_v12 (w : FVec Ideal S1024x1024 .f32) (b : FVec Ideal S1024 .f32) : val_main_v12 (F := Ideal) x0 w b = val_main_v6 x0 w b := rfl

/-- The values are projected as the queries are. -/
theorem r_v18 (w : FVec Ideal S1024x1024 .f32) (b : FVec Ideal S1024 .f32) : val_main_v18 (F := Ideal) x0 w b = val_main_v6 x0 w b := rfl

/-- The time steps. -/
theorem r_v21 (s) : val_main_v21 (F := Ideal) x1 (ix1 s) = dtE x1 s := by
  unfold val_main_v21 val_main_v20 val_main_v19 val_main_cst
  pointwise
  rfl

/-- The offsets. -/
theorem r_v79 (x13 : FVec Ideal S1024x128 .f32) (x14 : FVec Ideal S128 .f32) (h s p) :
    val_main_v79 (F := Ideal) x0 x1 x8 x9 x10 x11 x12 x13 x14 (ix3 h s p)
      = Ideal.tanh (prE (fun k => val_main_v72 (F := Ideal) x0 x1 x8 x9 x10 x11 x12 (ix2 s k)) x13 x14 (hcol h p)) := by
  unfold val_main_v79 val_main_v78 val_main_v77 val_main_v76 val_main_v75 val_main_v74 val_main_v73
  generalize val_main_v72 (F := Ideal) x0 x1 x8 x9 x10 x11 x12 = y
  pointwise
  rfl

/-- The point scores. -/
theorem r_v85 (x13 : FVec Ideal S1024x128 .f32) (x14 : FVec Ideal S128 .f32) (h s p) :
    val_main_v85 (F := Ideal) x0 x1 x8 x9 x10 x11 x12 x13 x14 (ix3 h s p)
      = prE (fun k => val_main_v72 (F := Ideal) x0 x1 x8 x9 x10 x11 x12 (ix2 s k)) x13 x14 (hcol h p) := by
  unfold val_main_v85 val_main_v84 val_main_v83 val_main_v82 val_main_v81 val_main_v80
  generalize val_main_v72 (F := Ideal) x0 x1 x8 x9 x10 x11 x12 = y
  pointwise
  rfl

/-- The sampling positions. -/
theorem r_v106 (x13 : FVec Ideal S1024x128 .f32) (x14 : FVec Ideal S128 .f32) (h s p) :
    val_main_v106 (F := Ideal) x0 x1 x8 x9 x10 x11 x12 x13 x14 (ix3 h s p)
      = spE (natE s) (val_main_v79 (F := Ideal) x0 x1 x8 x9 x10 x11 x12 x13 x14 (ix3 h s p)) (val_main_v94 (F := Ideal) (ix1 p)) := by
  unfold val_main_v106 val_main_v105 val_main_v104 val_main_v103 val_main_v102 val_main_v101 val_main_v100 val_main_v99
    val_main_v98 val_main_v97 val_main_v96 val_main_v95 val_main_v87 val_main_v86 val_main_cst_16 val_main_cst_17
  generalize val_main_v79 (F := Ideal) x0 x1 x8 x9 x10 x11 x12 x13 x14 = y
  generalize val_main_v94 (F := Ideal) = z
  pointwise
  rw [sito _ (Nat.lt_trans s.isLt (by decide))]
  rfl

/-- How many of the eight bounds a time step exceeds, with the bounds below it. -/
theorem bk_cases (d : ℝ) : ∃ k : Fin 9, (0 < d ↔ 0 < k.val) ∧ (1 / 2 < d ↔ 1 < k.val) ∧ (1 < d ↔ 2 < k.val) ∧ (2 < d ↔ 3 < k.val) ∧ (4 < d ↔ 4 < k.val) ∧ (8 < d ↔ 5 < k.val) ∧ (12 < d ↔ 6 < k.val) ∧ (24 < d ↔ 7 < k.val) := by
  by_cases h7 : 24 < d
  · refine ⟨8, ?_, ?_, ?_, ?_, ?_, ?_, ?_, ?_⟩ <;> constructor <;> intro h <;> first | decide | linarith | exact absurd h (by decide)
  by_cases h6 : 12 < d
  · refine ⟨7, ?_, ?_, ?_, ?_, ?_, ?_, ?_, ?_⟩ <;> constructor <;> intro h <;> first | decide | linarith | exact absurd h (by decide)
  by_cases h5 : 8 < d
  · refine ⟨6, ?_, ?_, ?_, ?_, ?_, ?_, ?_, ?_⟩ <;> constructor <;> intro h <;> first | decide | linarith | exact absurd h (by decide)
  by_cases h4 : 4 < d
  · refine ⟨5, ?_, ?_, ?_, ?_, ?_, ?_, ?_, ?_⟩ <;> constructor <;> intro h <;> first | decide | linarith | exact absurd h (by decide)
  by_cases h3 : 2 < d
  · refine ⟨4, ?_, ?_, ?_, ?_, ?_, ?_, ?_, ?_⟩ <;> constructor <;> intro h <;> first | decide | linarith | exact absurd h (by decide)
  by_cases h2 : 1 < d
  · refine ⟨3, ?_, ?_, ?_, ?_, ?_, ?_, ?_, ?_⟩ <;> constructor <;> intro h <;> first | decide | linarith | exact absurd h (by decide)
  by_cases h1 : 1 / 2 < d
  · refine ⟨2, ?_, ?_, ?_, ?_, ?_, ?_, ?_, ?_⟩ <;> constructor <;> intro h <;> first | decide | linarith | exact absurd h (by decide)
  by_cases h0 : 0 < d
  · refine ⟨1, ?_, ?_, ?_, ?_, ?_, ?_, ?_, ?_⟩ <;> constructor <;> intro h <;> first | decide | linarith | exact absurd h (by decide)
  refine ⟨0, ?_, ?_, ?_, ?_, ?_, ?_, ?_, ?_⟩ <;> constructor <;> intro h <;> first | decide | linarith | exact absurd h (by decide)

/-- The word of one half. -/
theorem ofBits_half : Ideal.ofBits FTy.f32 1056964608#32 = ((1 / 2 : ℝ) : EReal) := by
  simp [Ideal.ofBits, Ideal.ieee, -EReal.coe_mul]; norm_num

/-- The word of two. -/
theorem ofBits_2 : Ideal.ofBits FTy.f32 1073741824#32 = ((2 : ℝ) : EReal) := by
  simp [Ideal.ofBits, Ideal.ieee, -EReal.coe_mul]; norm_num

/-- The word of four. -/
theorem ofBits_4 : Ideal.ofBits FTy.f32 1082130432#32 = ((4 : ℝ) : EReal) := by
  simp [Ideal.ofBits, Ideal.ieee, -EReal.coe_mul]; norm_num

/-- The word of twelve. -/
theorem ofBits_12 : Ideal.ofBits FTy.f32 1094713344#32 = ((12 : ℝ) : EReal) := by
  simp [Ideal.ofBits, Ideal.ieee, -EReal.coe_mul]; norm_num

/-- The word of twenty-four. -/
theorem ofBits_24 : Ideal.ofBits FTy.f32 1103101952#32 = ((24 : ℝ) : EReal) := by
  simp [Ideal.ofBits, Ideal.ieee, -EReal.coe_mul]; norm_num

/-- A step is one where its bound is passed and zero elsewhere. -/
theorem msk_iff (b : EReal) (d : EReal) (P : Prop) [Decidable P] (h : b < d ↔ P) : msk b d = (((if P then 1 else 0 : ℝ)) : EReal) := by
  unfold msk
  by_cases hp : P
  · rw [if_pos hp, decide_eq_true (h.2 hp)]
    show (((1 : Int) : ℝ) : EReal) = _
    simp
  · rw [if_neg hp, decide_eq_false (fun q => hp (h.1 q))]
    show (((0 : Int) : ℝ) : EReal) = _
    simp

/-- The bucket's word of a time step. -/
def bkWord (d : EReal) : BitVec 32 := (IntOp.addi (IntOp.addi (IntOp.addi (IntOp.addi (IntOp.addi (IntOp.addi (IntOp.addi (IntOp.addi 0#32 (BitVec.setWidth 32 (BitVec.ofBool (decide (0 < d))))) (BitVec.setWidth 32 (BitVec.ofBool (decide (Ideal.ofBits FTy.f32 1056964608#32 < d))))) (BitVec.setWidth 32 (BitVec.ofBool (decide (1 < d))))) (BitVec.setWidth 32 (BitVec.ofBool (decide (Ideal.ofBits FTy.f32 1073741824#32 < d))))) (BitVec.setWidth 32 (BitVec.ofBool (decide (Ideal.ofBits FTy.f32 1082130432#32 < d))))) (BitVec.setWidth 32 (BitVec.ofBool (decide (Ideal.ofBits FTy.f32 1090519040#32 < d))))) (BitVec.setWidth 32 (BitVec.ofBool (decide (Ideal.ofBits FTy.f32 1094713344#32 < d))))) (BitVec.setWidth 32 (BitVec.ofBool (decide (Ideal.ofBits FTy.f32 1103101952#32 < d)))))

/-- A time step's bucket: its word, and the sum of the table's steps below it. -/
theorem bucket (d : ℝ) : ∃ K : Fin 9, bkWord d = BitVec.ofNat 32 K ∧ ∀ T : Fin 9 → ℝ, ∀ a : ℝ,
    ((a : ℝ) : EReal) + msk 0 d * ((T 1 : ℝ) - (T 0 : ℝ) : EReal) + msk (Ideal.ofBits FTy.f32 1056964608#32) d * ((T 2 : ℝ) - (T 1 : ℝ) : EReal) + msk 1 d * ((T 3 : ℝ) - (T 2 : ℝ) : EReal) + msk (Ideal.ofBits FTy.f32 1073741824#32) d * ((T 4 : ℝ) - (T 3 : ℝ) : EReal) + msk (Ideal.ofBits FTy.f32 1082130432#32) d * ((T 5 : ℝ) - (T 4 : ℝ) : EReal) + msk (Ideal.ofBits FTy.f32 1090519040#32) d * ((T 6 : ℝ) - (T 5 : ℝ) : EReal) + msk (Ideal.ofBits FTy.f32 1094713344#32) d * ((T 7 : ℝ) - (T 6 : ℝ) : EReal) + msk (Ideal.ofBits FTy.f32 1103101952#32) d * ((T 8 : ℝ) - (T 7 : ℝ) : EReal) = ((a + (T K - T 0) : ℝ) : EReal) := by
  obtain ⟨k, h0, h1, h2, h3, h4, h5, h6, h7⟩ := bk_cases d
  have e0 : (0 : EReal) < (d : EReal) ↔ 0 < k.val := by rw [← EReal.coe_zero, EReal.coe_lt_coe_iff]; exact h0
  have e1 : (Ideal.ofBits FTy.f32 1056964608#32 : EReal) < (d : EReal) ↔ 1 < k.val := by rw [ofBits_half, EReal.coe_lt_coe_iff]; exact h1
  have e2 : (1 : EReal) < (d : EReal) ↔ 2 < k.val := by rw [← EReal.coe_one, EReal.coe_lt_coe_iff]; exact h2
  have e3 : (Ideal.ofBits FTy.f32 1073741824#32 : EReal) < (d : EReal) ↔ 3 < k.val := by rw [ofBits_2, EReal.coe_lt_coe_iff]; exact h3
  have e4 : (Ideal.ofBits FTy.f32 1082130432#32 : EReal) < (d : EReal) ↔ 4 < k.val := by rw [ofBits_4, EReal.coe_lt_coe_iff]; exact h4
  have e5 : (Ideal.ofBits FTy.f32 1090519040#32 : EReal) < (d : EReal) ↔ 5 < k.val := by rw [ofBits_8, EReal.coe_lt_coe_iff]; exact h5
  have e6 : (Ideal.ofBits FTy.f32 1094713344#32 : EReal) < (d : EReal) ↔ 6 < k.val := by rw [ofBits_12, EReal.coe_lt_coe_iff]; exact h6
  have e7 : (Ideal.ofBits FTy.f32 1103101952#32 : EReal) < (d : EReal) ↔ 7 < k.val := by rw [ofBits_24, EReal.coe_lt_coe_iff]; exact h7
  refine ⟨k, ?_, fun T a => ?_⟩
  · unfold bkWord
    simp only [e0, e1, e2, e3, e4, e5, e6, e7]
    revert k
    intro k _ _ _ _ _ _ _ _ _ _ _ _ _ _ _ _
    fin_cases k <;> rfl
  · rw [msk_iff _ _ _ e0, msk_iff _ _ _ e1, msk_iff _ _ _ e2, msk_iff _ _ _ e3, msk_iff _ _ _ e4, msk_iff _ _ _ e5, msk_iff _ _ _ e6, msk_iff _ _ _ e7]
    simp only [← EReal.coe_sub, ← EReal.coe_mul, ← EReal.coe_add]
    refine congrArg Real.toEReal ?_
    clear e0 h0 e1 h1 e2 h2 e3 h3 e4 h4 e5 h5 e6 h6 e7 h7
    fin_cases k <;> simp <;> ring

/-- The row index that the reference gathers at is its bucket. -/
theorem r_v65 (s) (K : Fin 9) (h : bkWord (val_main_v21 (F := Ideal) x1 (ix1 s)) = BitVec.ofNat 32 K) :
    val_main_v66 (F := Ideal) x1 (ix2 s 0) = BitVec.ofNat 32 K := by
  unfold val_main_v66 val_main_v65 val_main_v64 val_main_v63 val_main_v62 val_main_v61 val_main_v56 val_main_v55 val_main_v54
    val_main_v53 val_main_v52 val_main_v51 val_main_v50 val_main_v49 val_main_v48 val_main_v47 val_main_v46 val_main_v45
    val_main_v44 val_main_v43 val_main_v42 val_main_v41 val_main_v40 val_main_v39 val_main_v38 val_main_v37 val_main_v36
    val_main_v35 val_main_v34 val_main_v33 val_main_v32 val_main_v31 val_main_v30 val_main_v29 val_main_v28 val_main_v27
    val_main_v26 val_main_v25 val_main_v24 val_main_c val_main_cst_0 val_main_cst_1 val_main_cst_2 val_main_cst_3
    val_main_cst_4 val_main_cst_5 val_main_cst_6 val_main_cst_7 val_main_c_8 val_main_c_9
  generalize val_main_v21 (F := Ideal) x1 = z at h
  pointwise
  unfold bkWord at h
  simp only [h]
  clear h
  fin_cases K <;> rfl

/-- A row of the table at the time step's bucket. -/
theorem r_v67 (s k) (K : Fin 9) (h : bkWord (val_main_v21 (F := Ideal) x1 (ix1 s)) = BitVec.ofNat 32 K) :
    val_main_v67 (F := Ideal) x1 x8 (ix2 s k) = x8 (ix2 K k) := by
  unfold val_main_v67
  exact Routing.gather_row _ rfl rfl rfl rfl rfl _ _ s k K (r_v65 x1 s K h) (by decide)

/-- A sum over 1536 positions is the sum of its first 1024, its next 256 and its last 256. -/
theorem sum3 {M : Type*} [AddCommMonoid M] (f : Fin 1536 → M) : ∑ k, f k
    = (∑ k : Fin 1024, f ⟨k, Nat.lt_trans k.isLt (by decide)⟩)
      + (∑ k : Fin 256, f ⟨1024 + (k : Nat), Nat.lt_trans (Nat.add_lt_add_left k.isLt 1024) (by decide)⟩)
      + ∑ k : Fin 256, f ⟨1280 + (k : Nat), Nat.add_lt_add_left k.isLt 1280⟩ := by
  have h1 := Fin.sum_univ_add (a := 1280) (b := 256) f
  have h2 := Fin.sum_univ_add (a := 1024) (b := 256) (fun i : Fin 1280 => f (Fin.castAdd 256 i))
  exact h1.trans (congrArg (· + _) h2)

/-- The reference's concatenated features: the input, the continuous part and the embedding. -/
theorem r_v68 (s k) : val_main_v68 (F := Ideal) x0 x1 x8 x9 x10 (ix2 s k)
    = if h : (k : ℕ) < 1024 then x0 (ix3 0 s ⟨k, h⟩)
      else if h' : (k : ℕ) - 1024 < 256 then Ideal.log1p (val_main_v21 (F := Ideal) x1 (ix1 s)) * x9 (ix2 0 ⟨k - 1024, h'⟩) + x10 (ix1 ⟨k - 1024, h'⟩)
      else val_main_v67 (F := Ideal) x1 x8 (ix2 s ⟨k - 1024 - 256, by omega⟩) := by
  unfold val_main_v68 val_main_v60 val_main_v59 val_main_v58 val_main_v57 val_main_v23 val_main_v22 val_main_v0
  generalize val_main_v67 (F := Ideal) x1 x8 = y
  generalize val_main_v21 (F := Ideal) x1 = z
  pointwise
  simp only [Fin.sum_univ_one]

/-- The reference's time-conditioned features. -/
theorem r_v72 (s x) : val_main_v72 (F := Ideal) x0 x1 x8 x9 x10 x11 x12 (ix2 s x)
    = (∑ k : Fin 1024, x0 (ix3 0 s k) * x11 (ix2 ⟨k, Nat.lt_trans k.isLt (by decide)⟩ x))
      + (∑ k : Fin 256, (Ideal.log1p (val_main_v21 (F := Ideal) x1 (ix1 s)) * x9 (ix2 0 k) + x10 (ix1 k))
          * x11 (ix2 ⟨1024 + (k : Nat), Nat.lt_trans (Nat.add_lt_add_left k.isLt 1024) (by decide)⟩ x))
      + (∑ k : Fin 256, val_main_v67 (F := Ideal) x1 x8 (ix2 s k) * x11 (ix2 ⟨1280 + (k : Nat), Nat.add_lt_add_left k.isLt 1280⟩ x))
      + x12 (ix1 x) := by
  have h : val_main_v72 (F := Ideal) x0 x1 x8 x9 x10 x11 x12 (ix2 s x)
      = (∑ k : Fin 1536, val_main_v68 (F := Ideal) x0 x1 x8 x9 x10 (ix2 s k) * x11 (ix2 k x)) + x12 (ix1 x) := by
    unfold val_main_v72 val_main_v71 val_main_v70 val_main_v69
    generalize val_main_v68 (F := Ideal) x0 x1 x8 x9 x10 = y
    pointwise
  rw [h, sum3]
  refine congrArg₂ (fun a b : EReal => a + b) (congrArg₂ (fun a b : EReal => a + b) (congrArg₂ (fun a b : EReal => a + b) ?_ ?_) ?_) rfl
  · refine Finset.sum_congr rfl fun k _ => ?_
    rw [r_v68, dif_pos k.isLt]
  · refine Finset.sum_congr rfl fun k _ => ?_
    have hk : (1024 + (k : ℕ)) - 1024 = k := by omega
    rw [r_v68, dif_neg (by show ¬(1024 + (k : ℕ) < 1024); omega), dif_pos (by show (1024 + (k : ℕ)) - 1024 < 256; omega)]
    simp only [hk]
  · refine Finset.sum_congr rfl fun k _ => ?_
    have hk : (1280 + (k : ℕ)) - 1024 - 256 = k := by omega
    rw [r_v68, dif_neg (by show ¬(1280 + (k : ℕ) < 1024); omega), dif_neg (by show ¬((1280 + (k : ℕ)) - 1024 < 256); omega)]
    simp only [hk]

/-- The kernel's features, regrouped by table steps, are the reference's. -/
theorem tc_eq (h0 : ∀ i, IsR (x0 i)) (h1 : ∀ i, IsR (x1 i)) (h8 : ∀ i, IsR (x8 i)) (h9 : ∀ i, IsR (x9 i))
    (h10 : ∀ i, IsR (x10 i)) (h11 : ∀ i, IsR (x11 i)) (h12 : ∀ i, IsR (x12 i)) (s x) :
    tcK x0 x1 x8 x9 x10 x11 x12 s x = val_main_v72 (F := Ideal) x0 x1 x8 x9 x10 x11 x12 (ix2 s x) := by
  obtain ⟨d, hd⟩ : IsR (dtE x1 s) := (h1 _).max IsR.zero
  obtain ⟨L, hL⟩ : IsR (Ideal.log1p (dtE x1 s)) := ((h1 _).max IsR.zero).log1p (le_max_right _ _)
  obtain ⟨K, hK, hT⟩ := bucket d
  choose f0 h0 using h0
  choose f8 h8 using h8
  choose f9 h9 using h9
  choose f10 h10 using h10
  choose f11 h11 using h11
  choose f12 h12 using h12
  have htab : ∀ r, tabF x8 x11 r x = ((∑ k : Fin 256, f8 (ix2 r k) * f11 (ix2 ⟨1280 + (k : Nat), Nat.add_lt_add_left k.isLt 1280⟩ x) : ℝ) : EReal) := fun r => by
    unfold tabF
    rw [coe_sum']
    exact Finset.sum_congr rfl fun k _ => by rw [h8, h11, EReal.coe_mul]
  rw [r_v72]
  simp only [r_v67 x1 x8 s _ K (by rw [r_v21, hd]; exact hK), r_v21]
  unfold tcK linT bdtF wdcF addE subE
  rw [hL, hd]
  simp only [htab, h0, h9, h10, h12, h8, h11]
  simp only [← EReal.coe_mul, ← coe_sum', ← EReal.coe_add]
  refine (hT (fun r => ∑ k : Fin 256, f8 (ix2 r k) * f11 (ix2 ⟨1280 + (k : Nat), Nat.add_lt_add_left k.isLt 1280⟩ x)) _).trans ?_
  refine congrArg Real.toEReal ?_
  simp only [add_mul, Finset.sum_add_distrib, mul_assoc, ← Finset.mul_sum]
  ring

end Cert.KernelIdeal.Val
-- ==== Proof.RefB.lean ====
module

public import proofs.«01_k».proof.Proof.RefA

/-! The reference's constants' ranges: the anchors lie between 0 and 136, the elapsed times and the time coefficients are
finite; a sampling position lies in its block's window. -/

@[expose] public section

set_option maxRecDepth 16384

noncomputable section

open Idealize.ShloMosaic Cert.Math

namespace Cert.KernelIdeal.Val

open Cert.ReferenceIdeal Cert.ReferenceIdeal.Read

/-- What holds of an operand's and of the updates' entries holds of those of a scatter that sets. -/
theorem scatter_mem {α : Type} {s si u : Shape} {w : ℕ} (P : α → Prop) (d : ScatterDims s si u) (x : s.Idx → α)
    (idx : IVec si w) (upd : u.Idx → α) (hx : ∀ i, P (x i)) (hu : ∀ j, P (upd j)) (i : s.Idx) :
    P (Host.scatter d (fun _ b => b) x idx upd i) := by
  unfold Host.scatter
  generalize List.finRange u.numel = l
  induction l generalizing x with
  | nil => exact hx i
  | cons n l ih =>
    rw [List.foldl_cons]
    refine ih _ fun i' => ?_
    generalize d.resultIdx? (u.rowMajor.symm n) idx = o
    cases o with
    | none => exact hx i'
    | some k =>
      show P (if i' = k then upd (u.rowMajor.symm n) else x i')
      split
      · exact hu _
      · exact hx _

/-- A sum of finite numbers over a list is finite. -/
theorem foldl_real {ι : Type} (g : ι → EReal) (hg : ∀ n, IsR (g n)) (l : List ι) (r : EReal) (hr : IsR r) :
    IsR (l.foldl (fun r n => r + g n) r) := by
  induction l generalizing r with
  | nil => exact hr
  | cons n l ih => exact ih _ (hr.add (hg n))

/-- A running sum of finite numbers is finite. -/
theorem window_real {s t : Shape} (window strides lo hi : Fin s.rank → Nat) (h : s.ReduceWindows window strides lo hi t)
    (x : s.Idx → EReal) (init : EReal) (hx : ∀ i, IsR (x i)) (hi' : IsR init) (j : t.Idx) :
    IsR (Ideal.hostReduceWindowAdd window strides lo hi h x init j) := by
  unfold Ideal.hostReduceWindowAdd Host.reduceWindow
  refine foldl_real _ (fun n => ?_) _ _ hi'
  dsimp only
  split
  · exact hx _
  · exact hi'

/-- The same for the sum of a window as the reference writes it. -/
theorem windowAdd_real {s t : Shape} (window strides lo hi : Fin s.rank → Nat) (x : FVec Ideal s .f32)
    (init : FVec Ideal S_ .f32) (h : s.ReduceWindows window strides lo hi t) (h0 : 0 < S_.numel)
    (hx : ∀ i, IsR (x i)) (hi' : ∀ i, IsR (init i)) (j : t.Idx) :
    IsR (Host.reduceWindowAdd window strides lo hi x init h h0 j) :=
  window_real window strides lo hi h x _ hx (hi' _) j

/-- The elapsed times are finite. -/
theorem r_v192 (x1 : FVec Ideal S1x2048 .f32) (h1 : ∀ i, IsR (x1 i)) (s) : IsR (val_main_v192 (F := Ideal) x1 (ix1 s)) := by
  unfold val_main_v192
  refine windowAdd_real _ _ _ _ _ _ _ _ (fun i => ?_) (fun i => ?_) _
  · rw [eq_ix1 i, show val_main_v21 (F := Ideal) x1 (ix1 (i 0)) = dtE x1 (i 0) from r_v21 x1 _]
    exact (h1 _).max IsR.zero
  · exact ⟨0, Ideal.ofBits_zero_f32⟩

/-- The time coefficients are finite. -/
theorem r_v218 (x : FVec Ideal S16x8 .f32) (hx : ∀ i, IsR (x i)) (h p) : IsR (val_main_v218 (F := Ideal) x (ix2 h p)) := by
  unfold val_main_v218 val_main_call4_v11 val_main_call4_v10 val_main_call4_v9 val_main_call4_v8 val_main_call4_v7
    val_main_call4_v6 val_main_call4_v5 val_main_call4_v4 val_main_call4_v3 val_main_call4_v2 val_main_call4_v1
    val_main_call4_v0 val_main_call4_cst
  pointwise
  rw [if_neg (fun e => e rfl)]
  obtain ⟨a, ha⟩ := hx (ix2 h p)
  rw [ha]
  have : Ideal.exp (-FloatOps.absf (F := Ideal) (φ := .f32) ((a : ℝ) : EReal)) = ((Real.exp (-max a (-a)) : ℝ) : EReal) := by
    show Ideal.exp (-(max (a : EReal) (-(a : EReal)))) = _
    rw [← EReal.coe_neg, ← coe_max', ← EReal.coe_neg]
    rfl
  rw [this]
  exact ((IsR.coe a).max IsR.zero).add ((IsR.coe _).log1p (EReal.coe_nonneg.2 (Real.exp_pos _).le))

/-- The word of the largest exponent of the anchors. -/
theorem c_val : Ideal.ofBits FTy.f32 0x40E05BF9#32 = ((4 * (1 + 6315001 / 8388608) : ℝ) : EReal) := by
  simp [Ideal.ofBits, Ideal.ieee, -EReal.coe_mul]; norm_num

/-- The word of seven. -/
theorem ofBits_7 : Ideal.ofBits FTy.f32 0x40E00000#32 = ((7 : ℝ) : EReal) := by
  simp [Ideal.ofBits, Ideal.ieee, -EReal.coe_mul]; norm_num

/-- Two to an exponent of an anchor is at most 137. -/
theorem two_pow_le (t : ℝ) (h : t ≤ 4 * (1 + 6315001 / 8388608)) : (2 : ℝ) ^ t ≤ 137 := by
  have h1 : (2 : ℝ) ^ t ≤ (2 : ℝ) ^ ((7 : ℝ) + 1 / 11) := Real.rpow_le_rpow_of_exponent_le (by norm_num) (by linarith)
  have h2 : (2 : ℝ) ^ ((1 : ℝ) / 11) ≤ 137 / 128 := by
    have : (2 : ℝ) ^ ((1 : ℝ) / 11) ≤ ((137 / 128 : ℝ) ^ (11 : ℕ)) ^ ((1 : ℝ) / 11) :=
      Real.rpow_le_rpow (by norm_num) (by norm_num) (by norm_num)
    rw [← Real.rpow_natCast, ← Real.rpow_mul (by norm_num)] at this
    norm_num at this
    exact this
  rw [Real.rpow_add (by norm_num)] at h1
  have h3 : (2 : ℝ) ^ (7 : ℝ) = 128 := by norm_num
  rw [h3] at h1
  linarith

/-- The exponents of the anchors. -/
theorem r_v88 (p) : ∃ t : ℝ, val_main_v88 (F := Ideal) (ix1 p) = t ∧ 0 ≤ t ∧ t ≤ 4 * (1 + 6315001 / 8388608) := by
  unfold val_main_v88 val_main_call0_v16 val_main_call0_v15 val_main_call0_v14 val_main_call0_v13 val_main_call0_v12
    val_main_call0_v11 val_main_call0_v10 val_main_call0_v9 val_main_call0_v8 val_main_call0_v7 val_main_call0_v6
    val_main_call0_v5 val_main_call0_v4 val_main_call0_v1 val_main_call0_v0 val_main_call0_cst_0 val_main_call0_cst_1
    val_main_cst_10 val_main_cst_11
  pointwise
  have hz : id (constant (F := Ideal) ReferenceIdeal.S_ FTy.f32 0#32) ix0 = 0 := Ideal.ofBits_zero_f32
  have hc : id (constant (F := Ideal) ReferenceIdeal.S_ FTy.f32 1088445433#32) ix0 = ((4 * (1 + 6315001 / 8388608) : ℝ) : EReal) := c_val
  rw [hz, hc, zero_mul, zero_add]
  split
  · rename_i hp
    have hp' : ((p : ℕ) : ℝ) ≤ 7 := by exact_mod_cast hp.le
    have hp0 : (0 : ℝ) ≤ ((p : ℕ) : ℝ) := Nat.cast_nonneg _
    rw [sito _ (Nat.lt_trans p.isLt (by decide)), show Ideal.ofBits FTy.f32 1088421888#32 = ((7 : ℝ) : EReal) from ofBits_7,
      Ideal.div_coe (by norm_num)]
    unfold natE
    rw [← EReal.coe_mul, ← EReal.coe_mul]
    exact ⟨_, rfl, by positivity, by nlinarith⟩
  · exact ⟨_, rfl, by norm_num, le_rfl⟩

/-- The anchors lie between 0 and 136. -/
theorem r_v94 (p) : ∃ t : ℝ, val_main_v94 (F := Ideal) (ix1 p) = t ∧ 0 ≤ t ∧ t ≤ 136 := by
  unfold val_main_v94
  refine scatter_mem (fun y : EReal => ∃ t : ℝ, y = t ∧ 0 ≤ t ∧ t ≤ 136) _ _ _ _ (fun i => ?_) (fun j => ⟨0, Ideal.ofBits_zero_f32, le_rfl, by norm_num⟩) _
  rw [eq_ix1 i]
  obtain ⟨t, ht, h0, h1⟩ := r_v88 (i 0)
  unfold val_main_v92 val_main_v91 val_main_v90 val_main_v89 val_main_cst_12 val_main_cst_13
  generalize val_main_v88 (F := Ideal) = y at ht
  pointwise
  have ht' : y i = t := by rw [eq_ix1 i]; exact ht
  have h2 : Ideal.ofBits FTy.f32 1073741824#32 = ((2 : ℝ) : EReal) := by
    simp [Ideal.ofBits, Ideal.ieee, -EReal.coe_mul]; norm_num
  have hp : Ideal.pow ((2 : ℝ) : EReal) (t : EReal) = (((2 : ℝ) ^ t : ℝ) : EReal) := rfl
  rw [ht', h2, hp]
  refine ⟨(2 : ℝ) ^ t - 1, by rw [EReal.coe_sub]; rfl, ?_, ?_⟩
  · have := Real.one_le_rpow (x := 2) (by norm_num) h0
    linarith
  · have := two_pow_le t h1
    linarith

/-- A sampling position of a row of the block `b` lies in the block's window, with its right neighbour. -/
theorem sp_block (b : Fin 8) (s : Fin 2048) (hb : s.val / 256 = b.val) (z an : EReal)
    (han : ∃ t : ℝ, an = t ∧ 0 ≤ t ∧ t ≤ 136) :
    ∃ r : ℝ, spE (natE s) (Ideal.tanh z) an = r ∧ (winStart b : ℝ) ≤ r ∧ r + 1 ≤ (winStart b : ℝ) + 512 ∧ r ≤ 2047 := by
  obtain ⟨t, rfl, ht0, ht1⟩ := han
  obtain ⟨h0, h1⟩ := tanh_bd z
  obtain ⟨o, ho⟩ := IsR.of_lt (lt_of_lt_of_le (EReal.bot_lt_coe _) h0) (lt_of_le_of_lt h1 (EReal.coe_lt_top _))
  rw [ho] at h0 h1
  have h0' : (-1 : ℝ) ≤ o := EReal.coe_le_coe_iff.1 h0
  have h1' : o ≤ 1 := EReal.coe_le_coe_iff.1 h1
  have hs : ((s.val : ℕ) : ℝ) ≤ 2047 := by exact_mod_cast Nat.le_of_lt_succ s.isLt
  have hs0 : (0 : ℝ) ≤ ((s.val : ℕ) : ℝ) := Nat.cast_nonneg _
  have hw1 : (winStart b : ℝ) ≤ max ((s.val : ℝ) - 144) 0 := by
    have : winStart b ≤ s.val - 144 := by unfold winStart; omega
    rcases Nat.le_total s.val 144 with h | h
    · have : winStart b = 0 := by omega
      rw [this]; exact le_max_of_le_right (by norm_num)
    · refine le_max_of_le_left ?_
      have : ((winStart b + 144 : ℕ) : ℝ) ≤ s.val := by exact_mod_cast (by omega : winStart b + 144 ≤ s.val)
      push_cast at this
      linarith
  have hw2 : (s.val : ℝ) + 1 ≤ (winStart b : ℝ) + 512 := by
    exact_mod_cast (by have := s.isLt; unfold winStart; omega : s.val + 1 ≤ winStart b + 512)
  have hw0 : (winStart b : ℝ) ≤ s.val := le_trans hw1 (max_le (by linarith) hs0)
  have e : spE (natE s) (Ideal.tanh z) (t : EReal) = ((min (max (s.val - t + o * 8) 0) s.val : ℝ) : EReal) := by
    unfold spE natE
    rw [ho, ofBits_8, coe_min', coe_max', EReal.coe_add, EReal.coe_sub, EReal.coe_mul]
    rfl
  refine ⟨_, e, ?_, ?_, ?_⟩
  · refine le_min (le_trans hw1 (max_le_max ?_ le_rfl)) hw0
    linarith
  · have := min_le_right (max (s.val - t + o * 8) 0) (s.val : ℝ)
    linarith
  · exact le_trans (min_le_right _ _) hs

end Cert.KernelIdeal.Val
-- ==== Proof.RefC.lean ====
module

public import proofs.«01_k».proof.Proof.RefB

/-! The rows the reference samples: the words of the rows left and right of a sampling position, and the entries a gather
reads at them. -/

@[expose] public section

set_option maxRecDepth 16384

noncomputable section

open Idealize.ShloMosaic Cert.Math

namespace Cert.KernelIdeal.Val

open Cert.ReferenceIdeal Cert.ReferenceIdeal.Read

/-- A gather of rows of a head: where its indices hold a head and a row, it reads that head's row. -/
theorem gather_head {α : Type} (x : S16x2048x64.Idx → α) (idx : IVec S16x2048x8x2 32) (h : Fin 16) (s : Fin 2048) (p : Fin 8)
    (e : Fin 64) (a : Fin 16) (b : Fin 2048) (ha : idx (ix4 h s p 0) = BitVec.ofNat 32 a)
    (hb : idx (ix4 h s p 1) = BitVec.ofNat 32 b) :
    Host.gather gather_S16x2048x64_S16x2048x8x2_S16x2048x8x64_3_01_n_n_01_3_1164 x idx (ix4 h s p e) = x (ix3 a b e) := by
  unfold Host.gather
  refine congrArg x (funext fun k => Fin.ext ?_)
  have i0 : GatherDims.siIdx gather_S16x2048x64_S16x2048x8x2_S16x2048x8x64_3_01_n_n_01_3_1164 (ix4 h s p e) ⟨0, (by decide : 0 < 2)⟩ = ix4 h s p 0 := by
    funext k
    match k with
    | ⟨0, _⟩ => rfl
    | ⟨1, _⟩ => rfl
    | ⟨2, _⟩ => rfl
    | ⟨3, _⟩ => rfl
  have i1 : GatherDims.siIdx gather_S16x2048x64_S16x2048x8x2_S16x2048x8x64_3_01_n_n_01_3_1164 (ix4 h s p e) ⟨1, (by decide : 1 < 2)⟩ = ix4 h s p 1 := by
    funext k
    match k with
    | ⟨0, _⟩ => rfl
    | ⟨1, _⟩ => rfl
    | ⟨2, _⟩ => rfl
    | ⟨3, _⟩ => rfl
  match k with
  | ⟨0, _⟩ =>
    show min ((idx (GatherDims.siIdx gather_S16x2048x64_S16x2048x8x2_S16x2048x8x64_3_01_n_n_01_3_1164 (ix4 h s p e) ⟨0, (by decide : 0 < 2)⟩)).toInt.toNat) (16 - 1) + 0 + 0 = a.val
    rw [i0, ha, StableHlo.Predicate.toInt_ofNat_small _ (by omega)]
    omega
  | ⟨1, _⟩ =>
    show min ((idx (GatherDims.siIdx gather_S16x2048x64_S16x2048x8x2_S16x2048x8x64_3_01_n_n_01_3_1164 (ix4 h s p e) ⟨1, (by decide : 1 < 2)⟩)).toInt.toNat) (2048 - 1) + 0 + 0 = b.val
    rw [i1, hb, StableHlo.Predicate.toInt_ofNat_small _ (by omega)]
    omega
  | ⟨2, _⟩ =>
    show 0 + 0 + (e : ℕ) = e
    omega

/-- A gather of entries of a vector. -/
theorem gather_vec {α : Type} (x : S2048.Idx → α) (idx : IVec S16x2048x8x1 32) (h : Fin 16) (s : Fin 2048) (p : Fin 8)
    (b : Fin 2048) (hb : idx (ix4 h s p 0) = BitVec.ofNat 32 b) :
    Host.gather gather_S2048_S16x2048x8x1_S16x2048x8_n_0_n_n_0_3_1 x idx (ix3 h s p) = x (ix1 b) := by
  unfold Host.gather
  refine congrArg x (funext fun k => Fin.ext ?_)
  have i0 : GatherDims.siIdx gather_S2048_S16x2048x8x1_S16x2048x8_n_0_n_n_0_3_1 (ix3 h s p) ⟨0, (by decide : 0 < 1)⟩ = ix4 h s p 0 := by
    funext k
    match k with
    | ⟨0, _⟩ => rfl
    | ⟨1, _⟩ => rfl
    | ⟨2, _⟩ => rfl
    | ⟨3, _⟩ => rfl
  match k with
  | ⟨0, _⟩ =>
    show min ((idx (GatherDims.siIdx gather_S2048_S16x2048x8x1_S16x2048x8_n_0_n_n_0_3_1 (ix3 h s p) ⟨0, (by decide : 0 < 1)⟩)).toInt.toNat) (2048 - 1) + 0 + 0 = b.val
    rw [i0, hb, StableHlo.Predicate.toInt_ofNat_small _ (by omega)]
    omega

/-- A small word is not negative. -/
theorem slt_zero (n : ℕ) (h : n < 2 ^ 31) : (BitVec.ofNat 32 n).slt 0#32 = false := by
  unfold BitVec.slt
  rw [StableHlo.Predicate.toInt_ofNat_small _ h]
  exact decide_eq_false (by show ¬ ((n : ℤ) < 0); omega)

/-- The greater of zero and a small word is the word. -/
theorem maxsi_zero (n : ℕ) (h : n < 2 ^ 31) : IntOp.maxsi 0#32 (BitVec.ofNat 32 n) = BitVec.ofNat 32 n := by
  unfold IntOp.maxsi
  rw [slt_zero n h]
  rfl

/-- The lesser of 2047 and a small word. -/
theorem minsi_2047 (n : ℕ) (h : n < 2 ^ 31) : IntOp.minsi 2047#32 (BitVec.ofNat 32 n) = BitVec.ofNat 32 (min n 2047) := by
  unfold IntOp.minsi BitVec.slt
  rw [StableHlo.Predicate.toInt_ofNat_small _ h]
  show (if decide ((2047 : ℤ) < (n : ℤ)) = true then _ else _) = _
  by_cases hn : 2047 < n
  · rw [if_pos (decide_eq_true (by exact_mod_cast hn)), min_eq_right hn.le]
  · rw [if_neg (by simpa using hn), min_eq_left (by omega)]

/-- An index that is not negative is not wrapped. -/
theorem wrap_word (n : ℕ) (h : n < 2 ^ 31) (k : BitVec 32) :
    Scalar.select (IntOp.cmpi CmpIPredicate.slt (BitVec.ofNat 32 n) 0#32) (IntOp.addi (BitVec.ofNat 32 n) k) (BitVec.ofNat 32 n)
      = BitVec.ofNat 32 n := by
  unfold Scalar.select IntOp.cmpi
  dsimp only
  rw [slt_zero n h]
  rfl

/-- The word of the row left of a position. -/
theorem left_word (r : ℝ) (h0 : 0 ≤ r) (h1 : r ≤ 2047) :
    IntOp.minsi 2047#32 (IntOp.maxsi 0#32 (Ideal.fptosi 32 (Ideal.liftRound Int.floor (r : EReal)))) = BitVec.ofNat 32 (lf (r : EReal)) := by
  have hf : ⌊r⌋₊ ≤ 2047 := by
    have := Nat.floor_le_floor h1
    simpa using this
  have hl : ((lf (r : EReal) : Fin 2048) : ℕ) = ⌊r⌋₊ := by
    unfold lf clampF
    rw [EReal.toReal_coe]
    exact min_eq_left hf
  have hw : Ideal.fptosi 32 (Ideal.liftRound Int.floor (r : EReal)) = BitVec.ofNat 32 ⌊r⌋₊ := by
    show BitVec.ofInt 32 (max _ (min _ (if (0 : ℝ) ≤ ((⌊r⌋ : ℤ) : ℝ) then ⌊((⌊r⌋ : ℤ) : ℝ)⌋ else ⌈((⌊r⌋ : ℤ) : ℝ)⌉))) = _
    rw [if_pos (by exact_mod_cast Int.floor_nonneg.2 h0), Int.floor_intCast, ← Int.natCast_floor_eq_floor h0]
    have : max (-((2 ^ (32 - 1) : ℕ) : ℤ)) (min (((2 ^ (32 - 1) : ℕ) : ℤ) - 1) (⌊r⌋₊ : ℤ)) = (⌊r⌋₊ : ℤ) := by
      norm_num
      omega
    rw [this]
    exact BitVec.ofInt_natCast 32 _
  rw [hw, hl]
  generalize ⌊r⌋₊ = n at hf
  rw [maxsi_zero n (by omega), minsi_2047 n (by omega), min_eq_left hf]

/-- The word of the row right of a position. -/
theorem right_word (r : ℝ) (h0 : 0 ≤ r) (h1 : r ≤ 2047) :
    IntOp.minsi 2047#32 (IntOp.maxsi 0#32 (IntOp.addi (BitVec.ofNat 32 (lf (r : EReal))) 1#32)) = BitVec.ofNat 32 (rt (r : EReal)) := by
  have hf : ⌊r⌋₊ ≤ 2047 := by
    have := Nat.floor_le_floor h1
    simpa using this
  have hl : ((lf (r : EReal) : Fin 2048) : ℕ) = ⌊r⌋₊ := by
    unfold lf clampF
    rw [EReal.toReal_coe]
    exact min_eq_left hf
  have hr : ((rt (r : EReal) : Fin 2048) : ℕ) = min (⌊r⌋₊ + 1) 2047 := by
    unfold rt clampF
    rw [EReal.toReal_coe]
  have ha : IntOp.addi (BitVec.ofNat 32 ⌊r⌋₊) 1#32 = BitVec.ofNat 32 (⌊r⌋₊ + 1) := BitVec.ofNat_add_ofNat ..
  rw [hl, hr, ha, maxsi_zero _ (by omega), minsi_2047 _ (by omega)]

section

variable (x0 : FVec Ideal S1x2048x1024 .f32) (x1 : FVec Ideal S1x2048 .f32) (x8 : FVec Ideal S9x256 .f32)
    (x9 : FVec Ideal S1x256 .f32) (x10 : FVec Ideal S256 .f32) (x11 : FVec Ideal S1536x1024 .f32)
    (x12 : FVec Ideal S1024 .f32) (x13 : FVec Ideal S1024x128 .f32) (x14 : FVec Ideal S128 .f32)

/-- The reference's word of the row left of a sampling position. -/
theorem r_left (h s p) (r : ℝ) (hr : val_main_v106 (F := Ideal) x0 x1 x8 x9 x10 x11 x12 x13 x14 (ix3 h s p) = r) (h0 : 0 ≤ r) (h1 : r ≤ 2047) :
    val_main_v109 (F := Ideal) x0 x1 x8 x9 x10 x11 x12 x13 x14 (ix3 h s p) = BitVec.ofNat 32 (lf (r : EReal)) := by
  unfold val_main_v109 val_main_call1_v4 val_main_call1_v2 val_main_call1_v3 val_main_call1_v1 val_main_v108
    val_main_c_19 val_main_call1_v0 val_main_v107 val_main_c_18
  generalize val_main_v106 (F := Ideal) x0 x1 x8 x9 x10 x11 x12 x13 x14 = y at hr
  pointwise
  rw [hr]
  exact left_word r h0 h1

/-- The reference's word of the row right of a sampling position. -/
theorem r_right (h s p) (r : ℝ) (hr : val_main_v106 (F := Ideal) x0 x1 x8 x9 x10 x11 x12 x13 x14 (ix3 h s p) = r) (h0 : 0 ≤ r) (h1 : r ≤ 2047) :
    val_main_v112 (F := Ideal) x0 x1 x8 x9 x10 x11 x12 x13 x14 (ix3 h s p) = BitVec.ofNat 32 (rt (r : EReal)) := by
  have hl := r_left x0 x1 x8 x9 x10 x11 x12 x13 x14 h s p r hr h0 h1
  unfold val_main_v112 val_main_call2_v4 val_main_call2_v2 val_main_call2_v3 val_main_call2_v1 val_main_v111
    val_main_c_22 val_main_call2_v0 val_main_v110 val_main_c_21 val_main_c_20
  generalize val_main_v109 (F := Ideal) x0 x1 x8 x9 x10 x11 x12 x13 x14 = y at hl
  pointwise
  rw [hl]
  exact right_word r h0 h1

/-- A sampling position's distance from the row left of it. -/
theorem r_al (h s p) (r : ℝ) (hr : val_main_v106 (F := Ideal) x0 x1 x8 x9 x10 x11 x12 x13 x14 (ix3 h s p) = r) (h0 : 0 ≤ r) (h1 : r ≤ 2047) :
    val_main_v114 (F := Ideal) x0 x1 x8 x9 x10 x11 x12 x13 x14 (ix3 h s p) = al (r : EReal) := by
  have hl := r_left x0 x1 x8 x9 x10 x11 x12 x13 x14 h s p r hr h0 h1
  unfold val_main_v114 val_main_v113
  generalize val_main_v109 (F := Ideal) x0 x1 x8 x9 x10 x11 x12 x13 x14 = y at hl
  generalize val_main_v106 (F := Ideal) x0 x1 x8 x9 x10 x11 x12 x13 x14 = z at hr
  pointwise
  rw [hl, hr, sito _ (by have := (lf (r : EReal)).isLt; omega)]
  rfl

/-- The indices of the gather of the rows to the left: the head, and the row. -/
theorem r_v131 (h s p) (n : Fin 2048) (hn : val_main_v109 (F := Ideal) x0 x1 x8 x9 x10 x11 x12 x13 x14 (ix3 h s p) = BitVec.ofNat 32 n) :
    val_main_v131 (F := Ideal) x0 x1 x8 x9 x10 x11 x12 x13 x14 (ix4 h s p 0) = BitVec.ofNat 32 h ∧
      val_main_v131 (F := Ideal) x0 x1 x8 x9 x10 x11 x12 x13 x14 (ix4 h s p 1) = BitVec.ofNat 32 n := by
  unfold val_main_v131 val_main_v129 val_main_v130 val_main_v128 val_main_v127 val_main_v122 val_main_v124
    val_main_v126 val_main_v119 val_main_v121 val_main_v116 val_main_v123 val_main_v125 val_main_v118 val_main_v120
    val_main_v115 val_main_c_25 val_main_c_26 val_main_c_23 val_main_c_24
  generalize val_main_v109 (F := Ideal) x0 x1 x8 x9 x10 x11 x12 x13 x14 = y at hn
  constructor
  · pointwise
    exact wrap_word _ (by omega) _
  · pointwise
    rw [hn]
    exact wrap_word _ (by omega) _

/-- The indices of the gather of the rows to the right: the head, and the row. -/
theorem r_v150 (h s p) (n : Fin 2048) (hn : val_main_v112 (F := Ideal) x0 x1 x8 x9 x10 x11 x12 x13 x14 (ix3 h s p) = BitVec.ofNat 32 n) :
    val_main_v150 (F := Ideal) x0 x1 x8 x9 x10 x11 x12 x13 x14 (ix4 h s p 0) = BitVec.ofNat 32 h ∧
      val_main_v150 (F := Ideal) x0 x1 x8 x9 x10 x11 x12 x13 x14 (ix4 h s p 1) = BitVec.ofNat 32 n := by
  unfold val_main_v150 val_main_v148 val_main_v149 val_main_v147 val_main_v146 val_main_v141 val_main_v143
    val_main_v145 val_main_v138 val_main_v140 val_main_v116 val_main_v142 val_main_v144 val_main_v137 val_main_v139
    val_main_v115 val_main_c_30 val_main_c_31 val_main_c_28 val_main_c_29
  generalize val_main_v112 (F := Ideal) x0 x1 x8 x9 x10 x11 x12 x13 x14 = y at hn
  constructor
  · pointwise
    exact wrap_word _ (by omega) _
  · pointwise
    rw [hn]
    exact wrap_word _ (by omega) _

/-- The indices of the gather of the rows to the left: the head, and the row. -/
theorem r_v168 (h s p) (n : Fin 2048) (hn : val_main_v109 (F := Ideal) x0 x1 x8 x9 x10 x11 x12 x13 x14 (ix3 h s p) = BitVec.ofNat 32 n) :
    val_main_v168 (F := Ideal) x0 x1 x8 x9 x10 x11 x12 x13 x14 (ix4 h s p 0) = BitVec.ofNat 32 h ∧
      val_main_v168 (F := Ideal) x0 x1 x8 x9 x10 x11 x12 x13 x14 (ix4 h s p 1) = BitVec.ofNat 32 n := by
  unfold val_main_v168 val_main_v166 val_main_v167 val_main_v165 val_main_v164 val_main_v159 val_main_v161
    val_main_v163 val_main_v156 val_main_v158 val_main_v116 val_main_v160 val_main_v162 val_main_v155 val_main_v157
    val_main_v115 val_main_c_34 val_main_c_35 val_main_c_32 val_main_c_33
  generalize val_main_v109 (F := Ideal) x0 x1 x8 x9 x10 x11 x12 x13 x14 = y at hn
  constructor
  · pointwise
    exact wrap_word _ (by omega) _
  · pointwise
    rw [hn]
    exact wrap_word _ (by omega) _

/-- The indices of the gather of the rows to the right: the head, and the row. -/
theorem r_v187 (h s p) (n : Fin 2048) (hn : val_main_v112 (F := Ideal) x0 x1 x8 x9 x10 x11 x12 x13 x14 (ix3 h s p) = BitVec.ofNat 32 n) :
    val_main_v187 (F := Ideal) x0 x1 x8 x9 x10 x11 x12 x13 x14 (ix4 h s p 0) = BitVec.ofNat 32 h ∧
      val_main_v187 (F := Ideal) x0 x1 x8 x9 x10 x11 x12 x13 x14 (ix4 h s p 1) = BitVec.ofNat 32 n := by
  unfold val_main_v187 val_main_v185 val_main_v186 val_main_v184 val_main_v183 val_main_v178 val_main_v180
    val_main_v182 val_main_v175 val_main_v177 val_main_v116 val_main_v179 val_main_v181 val_main_v174 val_main_v176
    val_main_v115 val_main_c_39 val_main_c_40 val_main_c_37 val_main_c_38
  generalize val_main_v112 (F := Ideal) x0 x1 x8 x9 x10 x11 x12 x13 x14 = y at hn
  constructor
  · pointwise
    exact wrap_word _ (by omega) _
  · pointwise
    rw [hn]
    exact wrap_word _ (by omega) _

/-- The indices of the gather of the elapsed times to the left. -/
theorem r_v198 (h s p) (n : Fin 2048) (hn : val_main_v109 (F := Ideal) x0 x1 x8 x9 x10 x11 x12 x13 x14 (ix3 h s p) = BitVec.ofNat 32 n) :
    val_main_v198 (F := Ideal) x0 x1 x8 x9 x10 x11 x12 x13 x14 (ix4 h s p 0) = BitVec.ofNat 32 n := by
  unfold val_main_v198 val_main_v197 val_main_v194 val_main_v196 val_main_v193 val_main_v195 val_main_c_41
    val_main_c_42
  generalize val_main_v109 (F := Ideal) x0 x1 x8 x9 x10 x11 x12 x13 x14 = y at hn
  pointwise
  rw [hn]
  exact wrap_word _ (by omega) _

/-- The indices of the gather of the elapsed times to the right. -/
theorem r_v208 (h s p) (n : Fin 2048) (hn : val_main_v112 (F := Ideal) x0 x1 x8 x9 x10 x11 x12 x13 x14 (ix3 h s p) = BitVec.ofNat 32 n) :
    val_main_v208 (F := Ideal) x0 x1 x8 x9 x10 x11 x12 x13 x14 (ix4 h s p 0) = BitVec.ofNat 32 n := by
  unfold val_main_v208 val_main_v207 val_main_v204 val_main_v206 val_main_v203 val_main_v205 val_main_c_44
    val_main_c_45
  generalize val_main_v112 (F := Ideal) x0 x1 x8 x9 x10 x11 x12 x13 x14 = y at hn
  pointwise
  rw [hn]
  exact wrap_word _ (by omega) _

end

end Cert.KernelIdeal.Val
-- ==== Proof.RefD.lean ====
module

public import proofs.«01_k».proof.Proof.RefC

/-! The reference's attention: the sampled keys, values and elapsed times, the logits, the weights, a head's output and the
result. -/

@[expose] public section

set_option maxRecDepth 16384

noncomputable section

open Idealize.ShloMosaic Cert.Math

namespace Cert.KernelIdeal.Val

open Cert.ReferenceIdeal Cert.ReferenceIdeal.Read

section

variable (x0 : FVec Ideal S1x2048x1024 .f32) (x1 : FVec Ideal S1x2048 .f32) (x2 : FVec Ideal S1024x1024 .f32) (x3 : FVec Ideal S1024 .f32)
  (x4 : FVec Ideal S1024x1024 .f32) (x5 : FVec Ideal S1024 .f32) (x6 : FVec Ideal S1024x1024 .f32) (x7 : FVec Ideal S1024 .f32)
  (x8 : FVec Ideal S9x256 .f32) (x9 : FVec Ideal S1x256 .f32) (x10 : FVec Ideal S256 .f32) (x11 : FVec Ideal S1536x1024 .f32)
  (x12 : FVec Ideal S1024 .f32) (x13 : FVec Ideal S1024x128 .f32) (x14 : FVec Ideal S128 .f32) (x15 : FVec Ideal S1024x128 .f32)
  (x16 : FVec Ideal S128 .f32) (x17 : FVec Ideal S1024x1024 .f32) (x18 : FVec Ideal S1024 .f32) (x19 : FVec Ideal S16x8 .f32)
  (x20 : FVec Ideal S16x8 .f32) (x21 : FVec Ideal S16x8 .f32)
  (hsp : ∀ h s p, ∃ r : ℝ, val_main_v106 (F := Ideal) x0 x1 x8 x9 x10 x11 x12 x13 x14 (ix3 h s p) = r ∧ 0 ≤ r ∧ r ≤ 2047)

include hsp in
/-- The sampled keys. -/
theorem r_v154 (h s p e) : val_main_v154 (F := Ideal) x0 x1 x4 x5 x8 x9 x10 x11 x12 x13 x14 (ix4 h s p e)
    = mix (val_main_v106 (F := Ideal) x0 x1 x8 x9 x10 x11 x12 x13 x14 (ix3 h s p)) (fun i => lin x0 x4 x5 i (ecol h e)) := by
  obtain ⟨r, hr, h0, h1⟩ := hsp h s p
  have hl : val_main_v132 (F := Ideal) x0 x1 x4 x5 x8 x9 x10 x11 x12 x13 x14 (ix4 h s p e) = lin x0 x4 x5 (lf (r : EReal)) (ecol h e) := by
    obtain ⟨ia, ib⟩ := r_v131 x0 x1 x8 x9 x10 x11 x12 x13 x14 h s p _ (r_left x0 x1 x8 x9 x10 x11 x12 x13 x14 h s p r hr h0 h1)
    unfold val_main_v132
    exact (gather_head _ _ h s p e h _ ia ib).trans (r_v6 x0 x4 x5 h _ e)
  have hg : val_main_v151 (F := Ideal) x0 x1 x4 x5 x8 x9 x10 x11 x12 x13 x14 (ix4 h s p e) = lin x0 x4 x5 (rt (r : EReal)) (ecol h e) := by
    obtain ⟨ia, ib⟩ := r_v150 x0 x1 x8 x9 x10 x11 x12 x13 x14 h s p _ (r_right x0 x1 x8 x9 x10 x11 x12 x13 x14 h s p r hr h0 h1)
    unfold val_main_v151
    exact (gather_head _ _ h s p e h _ ia ib).trans (r_v6 x0 x4 x5 h _ e)
  have ha := r_al x0 x1 x8 x9 x10 x11 x12 x13 x14 h s p r hr h0 h1
  rw [hr]
  unfold val_main_v154 val_main_v136 val_main_v135 val_main_v134 val_main_v133 val_main_cst_27 val_main_v153
    val_main_v152 val_main_v117
  generalize val_main_v132 (F := Ideal) x0 x1 x4 x5 x8 x9 x10 x11 x12 x13 x14 = y at hl
  generalize val_main_v151 (F := Ideal) x0 x1 x4 x5 x8 x9 x10 x11 x12 x13 x14 = z at hg
  generalize val_main_v114 (F := Ideal) x0 x1 x8 x9 x10 x11 x12 x13 x14 = a at ha
  pointwise
  rw [hl, hg, ha]
  rfl

include hsp in
/-- The sampled values. -/
theorem r_v191 (h s p e) : val_main_v191 (F := Ideal) x0 x1 x6 x7 x8 x9 x10 x11 x12 x13 x14 (ix4 h s p e)
    = mix (val_main_v106 (F := Ideal) x0 x1 x8 x9 x10 x11 x12 x13 x14 (ix3 h s p)) (fun i => lin x0 x6 x7 i (ecol h e)) := by
  obtain ⟨r, hr, h0, h1⟩ := hsp h s p
  have hl : val_main_v169 (F := Ideal) x0 x1 x6 x7 x8 x9 x10 x11 x12 x13 x14 (ix4 h s p e) = lin x0 x6 x7 (lf (r : EReal)) (ecol h e) := by
    obtain ⟨ia, ib⟩ := r_v168 x0 x1 x8 x9 x10 x11 x12 x13 x14 h s p _ (r_left x0 x1 x8 x9 x10 x11 x12 x13 x14 h s p r hr h0 h1)
    unfold val_main_v169
    exact (gather_head _ _ h s p e h _ ia ib).trans (r_v6 x0 x6 x7 h _ e)
  have hg : val_main_v188 (F := Ideal) x0 x1 x6 x7 x8 x9 x10 x11 x12 x13 x14 (ix4 h s p e) = lin x0 x6 x7 (rt (r : EReal)) (ecol h e) := by
    obtain ⟨ia, ib⟩ := r_v187 x0 x1 x8 x9 x10 x11 x12 x13 x14 h s p _ (r_right x0 x1 x8 x9 x10 x11 x12 x13 x14 h s p r hr h0 h1)
    unfold val_main_v188
    exact (gather_head _ _ h s p e h _ ia ib).trans (r_v6 x0 x6 x7 h _ e)
  have ha := r_al x0 x1 x8 x9 x10 x11 x12 x13 x14 h s p r hr h0 h1
  rw [hr]
  unfold val_main_v191 val_main_v173 val_main_v172 val_main_v171 val_main_v170 val_main_cst_36 val_main_v190
    val_main_v189 val_main_v117
  generalize val_main_v169 (F := Ideal) x0 x1 x6 x7 x8 x9 x10 x11 x12 x13 x14 = y at hl
  generalize val_main_v188 (F := Ideal) x0 x1 x6 x7 x8 x9 x10 x11 x12 x13 x14 = z at hg
  generalize val_main_v114 (F := Ideal) x0 x1 x8 x9 x10 x11 x12 x13 x14 = a at ha
  pointwise
  rw [hl, hg, ha]
  rfl

include hsp in
/-- The sampled elapsed times. -/
theorem r_v211 (h s p) : val_main_v211 (F := Ideal) x0 x1 x8 x9 x10 x11 x12 x13 x14 (ix3 h s p)
    = mix (val_main_v106 (F := Ideal) x0 x1 x8 x9 x10 x11 x12 x13 x14 (ix3 h s p)) (fun i => val_main_v192 (F := Ideal) x1 (ix1 i)) := by
  obtain ⟨r, hr, h0, h1⟩ := hsp h s p
  have hl : val_main_v199 (F := Ideal) x0 x1 x8 x9 x10 x11 x12 x13 x14 (ix3 h s p) = val_main_v192 (F := Ideal) x1 (ix1 (lf (r : EReal))) := by
    unfold val_main_v199
    exact gather_vec _ _ h s p _ (r_v198 x0 x1 x8 x9 x10 x11 x12 x13 x14 h s p _ (r_left x0 x1 x8 x9 x10 x11 x12 x13 x14 h s p r hr h0 h1))
  have hg : val_main_v209 (F := Ideal) x0 x1 x8 x9 x10 x11 x12 x13 x14 (ix3 h s p) = val_main_v192 (F := Ideal) x1 (ix1 (rt (r : EReal))) := by
    unfold val_main_v209
    exact gather_vec _ _ h s p _ (r_v208 x0 x1 x8 x9 x10 x11 x12 x13 x14 h s p _ (r_right x0 x1 x8 x9 x10 x11 x12 x13 x14 h s p r hr h0 h1))
  have ha := r_al x0 x1 x8 x9 x10 x11 x12 x13 x14 h s p r hr h0 h1
  rw [hr]
  unfold val_main_v211 val_main_v202 val_main_v201 val_main_v200 val_main_cst_43 val_main_v210
  generalize val_main_v199 (F := Ideal) x0 x1 x8 x9 x10 x11 x12 x13 x14 = y at hl
  generalize val_main_v209 (F := Ideal) x0 x1 x8 x9 x10 x11 x12 x13 x14 = z at hg
  generalize val_main_v114 (F := Ideal) x0 x1 x8 x9 x10 x11 x12 x13 x14 = a at ha
  generalize val_main_v192 (F := Ideal) x1 = el at hl hg ⊢
  pointwise
  rw [hl, hg, ha]
  rfl

include hsp in
/-- The reference's logits. -/
theorem r_v235 (h s p) : val_main_v235 (F := Ideal) x0 x1 x2 x3 x4 x5 x8 x9 x10 x11 x12 x13 x14 x15 x16 x19 x20 x21 (ix3 h s p)
    = lgR (lin x0 x2 x3) (lin x0 x4 x5) (fun i => val_main_v192 (F := Ideal) x1 (ix1 i)) h s (val_main_v106 (F := Ideal) x0 x1 x8 x9 x10 x11 x12 x13 x14 (ix3 h s p))
      (val_main_v85 (F := Ideal) x0 x1 x8 x9 x10 x11 x12 x15 x16 (ix3 h s p)) (val_main_v218 (F := Ideal) x20 (ix2 h p))
      (x21 (ix2 h p)) (x19 (ix2 h p)) := by
  have hq := fun e => r_v6 x0 x2 x3 h s e
  have hk := fun e => r_v154 x0 x1 x4 x5 x8 x9 x10 x11 x12 x13 x14 hsp h s p e
  have he := r_v211 x0 x1 x8 x9 x10 x11 x12 x13 x14 hsp h s p
  generalize (val_main_v106 (F := Ideal) x0 x1 x8 x9 x10 x11 x12 x13 x14 (ix3 h s p)) = sp at hk he ⊢
  unfold val_main_v235 val_main_v232 val_main_v231 val_main_v230 val_main_v228 val_main_v227 val_main_v226
    val_main_v225 val_main_cst_47 val_main_v229 val_main_cst_48 val_main_v224 val_main_v223 val_main_v220
    val_main_v222 val_main_v221 val_main_v219 val_main_v217 val_main_v216 val_main_v214 val_main_v213 val_main_v212
    val_main_v215 val_main_cst_46 val_main_v234 val_main_v233
  generalize val_main_v6 (F := Ideal) x0 x2 x3 = q at hq
  generalize val_main_v154 (F := Ideal) x0 x1 x4 x5 x8 x9 x10 x11 x12 x13 x14 = k at hk
  generalize val_main_v211 (F := Ideal) x0 x1 x8 x9 x10 x11 x12 x13 x14 = es at he
  generalize val_main_v192 (F := Ideal) x1 = el at he ⊢
  generalize val_main_v85 (F := Ideal) x0 x1 x8 x9 x10 x11 x12 x15 x16 = ps
  generalize val_main_v218 (F := Ideal) x20 = dc
  pointwise
  unfold lgR
  simp only [hq, hk, he]

/-- The reference's weights. -/
theorem r_v246 (h s p) : val_main_v246 (F := Ideal) x0 x1 x2 x3 x4 x5 x8 x9 x10 x11 x12 x13 x14 x15 x16 x19 x20 x21 (ix3 h s p)
    = smx (fun p => val_main_v235 (F := Ideal) x0 x1 x2 x3 x4 x5 x8 x9 x10 x11 x12 x13 x14 x15 x16 x19 x20 x21 (ix3 h s p)) p := by
  unfold val_main_v246 val_main_v245 val_main_v244 val_main_v243 val_main_v242 val_main_v241 val_main_v240
    val_main_v239 val_main_v238 val_main_v237 val_main_cst_50 val_main_v236 val_main_cst_49 val_main_cst_51
  generalize val_main_v235 (F := Ideal) x0 x1 x2 x3 x4 x5 x8 x9 x10 x11 x12 x13 x14 x15 x16 x19 x20 x21 = lg
  pointwise
  have hm : ∀ x : EReal, max (Ideal.ofBits FTy.f32 4286578688#32) x = x := fun x => by
    rw [ofBits_ninf]; exact max_eq_right bot_le
  simp only [hm]
  rfl

include hsp in
/-- A head's output. -/
theorem r_v250 (h s e) : val_main_v250 (F := Ideal) x0 x1 x2 x3 x4 x5 x6 x7 x8 x9 x10 x11 x12 x13 x14 x15 x16 x19 x20 x21 (ix3 h s e)
    = refHead (lin x0 x2 x3) (lin x0 x4 x5) (lin x0 x6 x7)
      (fun h s p => val_main_v79 (F := Ideal) x0 x1 x8 x9 x10 x11 x12 x13 x14 (ix3 h s p))
      (fun h s p => val_main_v85 (F := Ideal) x0 x1 x8 x9 x10 x11 x12 x15 x16 (ix3 h s p))
      (fun i => val_main_v192 (F := Ideal) x1 (ix1 i)) (fun p => val_main_v94 (F := Ideal) (ix1 p))
      (fun h p => val_main_v218 (F := Ideal) x20 (ix2 h p)) (fun h p => x21 (ix2 h p)) (fun h p => x19 (ix2 h p)) h s e := by
  have hw := fun p => r_v246 x0 x1 x2 x3 x4 x5 x8 x9 x10 x11 x12 x13 x14 x15 x16 x19 x20 x21 h s p
  have hv := fun p => r_v191 x0 x1 x6 x7 x8 x9 x10 x11 x12 x13 x14 hsp h s p e
  have hg := fun p => r_v235 x0 x1 x2 x3 x4 x5 x8 x9 x10 x11 x12 x13 x14 x15 x16 x19 x20 x21 hsp h s p
  simp only [hg] at hw
  clear hg
  simp only [r_v106] at hw hv
  unfold val_main_v250 val_main_v249 val_main_v248 val_main_v247 val_main_cst_52
  generalize val_main_v246 (F := Ideal) x0 x1 x2 x3 x4 x5 x8 x9 x10 x11 x12 x13 x14 x15 x16 x19 x20 x21 = w at hw
  generalize val_main_v191 (F := Ideal) x0 x1 x6 x7 x8 x9 x10 x11 x12 x13 x14 = v at hv
  unfold refHead
  pointwise
  simp only [hw, hv]

/-- The reference's result. -/
theorem r_v257 (s x) : val_main_v257 (F := Ideal) x0 x1 x2 x3 x4 x5 x6 x7 x8 x9 x10 x11 x12 x13 x14 x15 x16 x17 x18 x19 x20 x21 (ix3 0 s x)
    = (∑ d : Fin 1024, val_main_v250 (F := Ideal) x0 x1 x2 x3 x4 x5 x6 x7 x8 x9 x10 x11 x12 x13 x14 x15 x16 x19 x20 x21 (ix3 ⟨(d : ℕ) / 64, by omega⟩ s ⟨(d : ℕ) % 64, by omega⟩) * x17 (ix2 d x))
      + x18 (ix1 x) := by
  unfold val_main_v257 val_main_v256 val_main_v253 val_main_v252 val_main_v251 val_main_v255 val_main_v254
  generalize val_main_v250 (F := Ideal) x0 x1 x2 x3 x4 x5 x6 x7 x8 x9 x10 x11 x12 x13 x14 x15 x16 x19 x20 x21 = y
  pointwise

end

end Cert.KernelIdeal.Val
-- ==== Proof.Comb.lean ====
module

public import proofs.«01_k».proof.Proof.RefD

/-! The kernel's attention is the reference's: where the inputs named are real, each column of the kernel's result is a head's output of the
reference, and the two results are equal. -/

@[expose] public section

set_option maxRecDepth 16384

noncomputable section

open Idealize.ShloMosaic Idealize.ShloMosaic.TcCoe Cert.Math

namespace Cert.KernelIdeal.Val

open Cert.ReferenceIdeal Cert.ReferenceIdeal.Read

section

variable (x0 : FVec Ideal S1x2048x1024 .f32) (x1 : FVec Ideal S1x2048 .f32) (x2 : FVec Ideal S1024x1024 .f32) (x3 : FVec Ideal S1024 .f32)
  (x4 : FVec Ideal S1024x1024 .f32) (x5 : FVec Ideal S1024 .f32) (x6 : FVec Ideal S1024x1024 .f32) (x7 : FVec Ideal S1024 .f32)
  (x8 : FVec Ideal S9x256 .f32) (x9 : FVec Ideal S1x256 .f32) (x10 : FVec Ideal S256 .f32) (x11 : FVec Ideal S1536x1024 .f32)
  (x12 : FVec Ideal S1024 .f32) (x13 : FVec Ideal S1024x128 .f32) (x14 : FVec Ideal S128 .f32) (x15 : FVec Ideal S1024x128 .f32)
  (x16 : FVec Ideal S128 .f32) (x17 : FVec Ideal S1024x1024 .f32) (x18 : FVec Ideal S1024 .f32) (x19 : FVec Ideal S16x8 .f32)
  (x20 : FVec Ideal S16x8 .f32) (x21 : FVec Ideal S16x8 .f32)
  (h0 : ∀ i, IsR (x0 i)) (h1 : ∀ i, IsR (x1 i)) (h2 : ∀ i, IsR (x2 i)) (h3 : ∀ i, IsR (x3 i)) (h4 : ∀ i, IsR (x4 i))
  (h5 : ∀ i, IsR (x5 i)) (h8 : ∀ i, IsR (x8 i)) (h9 : ∀ i, IsR (x9 i)) (h10 : ∀ i, IsR (x10 i)) (h11 : ∀ i, IsR (x11 i))
  (h12 : ∀ i, IsR (x12 i)) (h15 : ∀ i, IsR (x15 i)) (h16 : ∀ i, IsR (x16 i)) (h19 : ∀ i, IsR (x19 i)) (h20 : ∀ i, IsR (x20 i))
  (h21 : ∀ i, IsR (x21 i))

/-- A projection of real numbers is real. -/
theorem lin_real (w : FVec Ideal S1024x1024 .f32) (b : FVec Ideal S1024 .f32) (h0 : ∀ i, IsR (x0 i)) (hw : ∀ i, IsR (w i))
    (hb : ∀ i, IsR (b i)) (s d) : IsR (lin x0 w b s d) :=
  (IsR.sum _ fun _ => (h0 _).mul (hw _)).add (hb _)

/-- A step's weight is real. -/
theorem msk_real (b d : EReal) : IsR (msk b d) := ⟨_, rfl⟩

include h0 h1 h8 h9 h10 h11 h12 in
/-- The time-conditioned features are real. -/
theorem tc_real (s x) : IsR (tcK x0 x1 x8 x9 x10 x11 x12 s x) := by
  have ht : ∀ r, IsR (tabF x8 x11 r x) := fun r => IsR.sum _ fun _ => (h8 _).mul (h11 _)
  have hd : ∀ r r', IsR (subE (tabF x8 x11 r x) (tabF x8 x11 r' x)) := fun r r' => (ht r).sub (ht r')
  have hl : IsR (Ideal.log1p (dtE x1 s)) := ((h1 _).max IsR.zero).log1p (le_max_right _ _)
  have hw : IsR (wdcF x9 x11 x) := IsR.sum _ fun _ => (h9 _).mul (h11 _)
  have hb : IsR (bdtF x10 x11 x) := IsR.sum _ fun _ => (h10 _).mul (h11 _)
  have hx : IsR (linT x0 x11 s x) := IsR.sum _ fun _ => (h0 _).mul (h11 _)
  unfold tcK
  exact (((((((((hx.add (((h12 _).add hb).add (ht 0))).add (hl.mul hw)).add ((msk_real _ _).mul (hd _ _))).add ((msk_real _ _).mul (hd _ _))).add
    ((msk_real _ _).mul (hd _ _))).add ((msk_real _ _).mul (hd _ _))).add ((msk_real _ _).mul (hd _ _))).add ((msk_real _ _).mul (hd _ _))).add
    ((msk_real _ _).mul (hd _ _))).add ((msk_real _ _).mul (hd _ _))

/-- The block of a sampling row. -/
theorem blk_lt (s : Fin 2048) : (s : ℕ) / 256 < 8 := by omega

/-- The sampling positions lie between the first row and the last. -/
theorem sp_all (h s p) : ∃ r : ℝ, val_main_v106 (F := Ideal) x0 x1 x8 x9 x10 x11 x12 x13 x14 (ix3 h s p) = r ∧ 0 ≤ r ∧ r ≤ 2047 := by
  obtain ⟨r, hr, h0, -, h1⟩ := sp_block ⟨(s : ℕ) / 256, blk_lt s⟩ s rfl
    (prE (fun k => val_main_v72 (F := Ideal) x0 x1 x8 x9 x10 x11 x12 (ix2 s k)) x13 x14 (hcol h p)) _ (r_v94 p)
  exact ⟨r, by rw [r_v106, r_v79]; exact hr, le_trans (Nat.cast_nonneg _) h0, h1⟩

/-- A head of the kernel, of the arrays. -/
def headA (b : Fin 8) (s : Fin 2048) (g : Fin 8) (l : Fin 128) (h : Fin 2) : EReal :=
  headF (lin x0 x2 x3) (lin x0 x4 x5) (lin x0 x6 x7)
    (fun h s p => Ideal.tanh (prE (tcK x0 x1 x8 x9 x10 x11 x12 s) x13 x14 (hcol h p)))
    (fun h s p => prE (tcK x0 x1 x8 x9 x10 x11 x12 s) x15 x16 (hcol h p))
    (fun s => val_main_v192 (F := Ideal) x1 (ix1 s)) (fun p => val_main_v94 (F := Ideal) (ix1 p))
    (fun h p => val_main_v218 (F := Ideal) x20 (ix2 h p)) (fun h p => addE (x21 (ix2 h p)) (x19 (ix2 h p))) b s g l h

include h0 h1 h2 h3 h4 h5 h8 h9 h10 h11 h12 h15 h16 h19 h20 h21 in
/-- A head of the kernel at one of its own lanes is the reference's. -/
theorem headA_in (s : Fin 2048) (g : Fin 8) (h : Fin 2) (e : Fin 64) (l : Fin 128) (hl : l.val = 64 * h + e) :
    headA x0 x1 x2 x3 x4 x5 x6 x7 x8 x9 x10 x11 x12 x13 x14 x15 x16 x19 x20 x21 ⟨(s : ℕ) / 256, blk_lt s⟩ s g l h = val_main_v250 (F := Ideal) x0 x1 x2 x3 x4 x5 x6 x7 x8 x9 x10 x11 x12 x13 x14 x15 x16 x19 x20 x21 (ix3 (hd g h) s e) := by
  have htc : ∀ s, tcK x0 x1 x8 x9 x10 x11 x12 s = fun k => val_main_v72 (F := Ideal) x0 x1 x8 x9 x10 x11 x12 (ix2 s k) := fun s =>
    funext fun k => tc_eq x0 x1 x8 x9 x10 x11 x12 h0 h1 h8 h9 h10 h11 h12 s k
  have hoff : (fun (h : Fin 16) (s : Fin 2048) (p : Fin 8) => Ideal.tanh (prE (tcK x0 x1 x8 x9 x10 x11 x12 s) x13 x14 (hcol h p)))
      = fun h s p => val_main_v79 (F := Ideal) x0 x1 x8 x9 x10 x11 x12 x13 x14 (ix3 h s p) :=
    funext fun h => funext fun s => funext fun p => by rw [htc, r_v79]
  have hps : (fun (h : Fin 16) (s : Fin 2048) (p : Fin 8) => prE (tcK x0 x1 x8 x9 x10 x11 x12 s) x15 x16 (hcol h p))
      = fun h s p => val_main_v85 (F := Ideal) x0 x1 x8 x9 x10 x11 x12 x15 x16 (ix3 h s p) :=
    funext fun h => funext fun s => funext fun p => by rw [htc, r_v85]
  rw [r_v250 x0 x1 x2 x3 x4 x5 x6 x7 x8 x9 x10 x11 x12 x13 x14 x15 x16 x19 x20 x21 (sp_all x0 x1 x8 x9 x10 x11 x12 x13 x14)]
  unfold headA
  rw [← hoff, ← hps]
  exact headF_in _ _ _ _ _ _ _ _ _ _ _ s g h (lin_real x0 x2 x3 h0 h2 h3) (lin_real x0 x4 x5 h0 h4 h5)
    (fun h s p => (IsR.sum _ fun _ => (tc_real x0 x1 x8 x9 x10 x11 x12 h0 h1 h8 h9 h10 h11 h12 s _).mul (h15 _)).add (h16 _)) (r_v192 x1 h1) (r_v218 x20 h20)
    (fun h p => h21 _) (fun h p => h19 _) (fun p => sp_block _ s rfl _ _ (r_v94 p)) e l hl

include h0 h1 h2 h3 h4 h5 h8 h9 h10 h11 h12 h15 h16 h19 h20 h21 in
/-- A column of the kernel's attention is the reference's: of its pair's two heads one is the column's, the other zero there. -/
theorem att_col (s : Fin 2048) (d : Fin 1024) (hg : (d : ℕ) / 128 < 8) (hl : (d : ℕ) % 128 < 128) (hh : (d : ℕ) / 64 < 16)
    (he : (d : ℕ) % 64 < 64) :
    headA x0 x1 x2 x3 x4 x5 x6 x7 x8 x9 x10 x11 x12 x13 x14 x15 x16 x19 x20 x21 ⟨(s : ℕ) / 256, blk_lt s⟩ s ⟨(d : ℕ) / 128, hg⟩ ⟨(d : ℕ) % 128, hl⟩ 0
      + headA x0 x1 x2 x3 x4 x5 x6 x7 x8 x9 x10 x11 x12 x13 x14 x15 x16 x19 x20 x21 ⟨(s : ℕ) / 256, blk_lt s⟩ s ⟨(d : ℕ) / 128, hg⟩ ⟨(d : ℕ) % 128, hl⟩ 1
      = val_main_v250 (F := Ideal) x0 x1 x2 x3 x4 x5 x6 x7 x8 x9 x10 x11 x12 x13 x14 x15 x16 x19 x20 x21 (ix3 ⟨(d : ℕ) / 64, hh⟩ s ⟨(d : ℕ) % 64, he⟩) := by
  have key := headA_in x0 x1 x2 x3 x4 x5 x6 x7 x8 x9 x10 x11 x12 x13 x14 x15 x16 x19 x20 x21 h0 h1 h2 h3 h4 h5 h8 h9 h10 h11 h12 h15 h16 h19 h20 h21 s ⟨(d : ℕ) / 128, hg⟩
  rcases Nat.lt_or_ge ((d : ℕ) % 128) 64 with hc | hc
  · have h1' : headA x0 x1 x2 x3 x4 x5 x6 x7 x8 x9 x10 x11 x12 x13 x14 x15 x16 x19 x20 x21 ⟨(s : ℕ) / 256, blk_lt s⟩ s ⟨(d : ℕ) / 128, hg⟩ ⟨(d : ℕ) % 128, hl⟩ 1 = 0 :=
      headF_out _ _ _ _ _ _ _ _ _ _ _ _ _ _ (by show ¬(64 * 1 ≤ (d : ℕ) % 128 ∧ (d : ℕ) % 128 < 64 * (1 + 1)); omega)
    rw [h1', add_zero, key 0 ⟨(d : ℕ) % 64, he⟩ _ (by show (d : ℕ) % 128 = 64 * 0 + (d : ℕ) % 64; omega)]
    have : hd ⟨(d : ℕ) / 128, hg⟩ 0 = ⟨(d : ℕ) / 64, hh⟩ := Fin.ext (by show 2 * ((d : ℕ) / 128) + 0 = (d : ℕ) / 64; omega)
    rw [this]
  · have h1' : headA x0 x1 x2 x3 x4 x5 x6 x7 x8 x9 x10 x11 x12 x13 x14 x15 x16 x19 x20 x21 ⟨(s : ℕ) / 256, blk_lt s⟩ s ⟨(d : ℕ) / 128, hg⟩ ⟨(d : ℕ) % 128, hl⟩ 0 = 0 :=
      headF_out _ _ _ _ _ _ _ _ _ _ _ _ _ _ (by show ¬(64 * 0 ≤ (d : ℕ) % 128 ∧ (d : ℕ) % 128 < 64 * (0 + 1)); omega)
    rw [h1', zero_add, key 1 ⟨(d : ℕ) % 64, he⟩ _ (by show (d : ℕ) % 128 = 64 * 1 + (d : ℕ) % 64; omega)]
    have : hd ⟨(d : ℕ) / 128, hg⟩ 1 = ⟨(d : ℕ) / 64, hh⟩ := Fin.ext (by show 2 * ((d : ℕ) / 128) + 1 = (d : ℕ) / 64; omega)
    rw [this]

end

section

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The kernel's result is the reference's function of its arguments, where the arguments named are real. -/
theorem result_eq
    (h0 : ∀ i, IsR ((m (c.tc.loc Cert.KernelIdeal.main_arg0) : FVec Ideal S1x2048x1024 .f32) i))
    (h1 : ∀ i, IsR ((m (c.tc.loc Cert.KernelIdeal.main_arg1) : FVec Ideal S1x2048 .f32) i))
    (h2 : ∀ i, IsR ((m (c.tc.loc Cert.KernelIdeal.main_arg2) : FVec Ideal S1024x1024 .f32) i))
    (h3 : ∀ i, IsR ((m (c.tc.loc Cert.KernelIdeal.main_arg3) : FVec Ideal S1024 .f32) i))
    (h4 : ∀ i, IsR ((m (c.tc.loc Cert.KernelIdeal.main_arg4) : FVec Ideal S1024x1024 .f32) i))
    (h5 : ∀ i, IsR ((m (c.tc.loc Cert.KernelIdeal.main_arg5) : FVec Ideal S1024 .f32) i))
    (h8 : ∀ i, IsR ((m (c.tc.loc Cert.KernelIdeal.main_arg8) : FVec Ideal S9x256 .f32) i))
    (h9 : ∀ i, IsR ((m (c.tc.loc Cert.KernelIdeal.main_arg9) : FVec Ideal S1x256 .f32) i))
    (h10 : ∀ i, IsR ((m (c.tc.loc Cert.KernelIdeal.main_arg10) : FVec Ideal S256 .f32) i))
    (h11 : ∀ i, IsR ((m (c.tc.loc Cert.KernelIdeal.main_arg11) : FVec Ideal S1536x1024 .f32) i))
    (h12 : ∀ i, IsR ((m (c.tc.loc Cert.KernelIdeal.main_arg12) : FVec Ideal S1024 .f32) i))
    (h15 : ∀ i, IsR ((m (c.tc.loc Cert.KernelIdeal.main_arg15) : FVec Ideal S1024x128 .f32) i))
    (h16 : ∀ i, IsR ((m (c.tc.loc Cert.KernelIdeal.main_arg16) : FVec Ideal S128 .f32) i))
    (h19 : ∀ i, IsR ((m (c.tc.loc Cert.KernelIdeal.main_arg19) : FVec Ideal S16x8 .f32) i))
    (h20 : ∀ i, IsR ((m (c.tc.loc Cert.KernelIdeal.main_arg20) : FVec Ideal S16x8 .f32) i))
    (h21 : ∀ i, IsR ((m (c.tc.loc Cert.KernelIdeal.main_arg21) : FVec Ideal S16x8 .f32) i)) :
    Cert.KernelIdeal.Gen.W15 m ρ c Cert.KernelIdeal.main_v73
      = val_main_v257 (F := Ideal) (m (c.tc.loc Cert.KernelIdeal.main_arg0)) (m (c.tc.loc Cert.KernelIdeal.main_arg1)) (m (c.tc.loc Cert.KernelIdeal.main_arg2)) (m (c.tc.loc Cert.KernelIdeal.main_arg3)) (m (c.tc.loc Cert.KernelIdeal.main_arg4)) (m (c.tc.loc Cert.KernelIdeal.main_arg5)) (m (c.tc.loc Cert.KernelIdeal.main_arg6)) (m (c.tc.loc Cert.KernelIdeal.main_arg7)) (m (c.tc.loc Cert.KernelIdeal.main_arg8)) (m (c.tc.loc Cert.KernelIdeal.main_arg9)) (m (c.tc.loc Cert.KernelIdeal.main_arg10)) (m (c.tc.loc Cert.KernelIdeal.main_arg11)) (m (c.tc.loc Cert.KernelIdeal.main_arg12)) (m (c.tc.loc Cert.KernelIdeal.main_arg13)) (m (c.tc.loc Cert.KernelIdeal.main_arg14)) (m (c.tc.loc Cert.KernelIdeal.main_arg15)) (m (c.tc.loc Cert.KernelIdeal.main_arg16)) (m (c.tc.loc Cert.KernelIdeal.main_arg17)) (m (c.tc.loc Cert.KernelIdeal.main_arg18)) (m (c.tc.loc Cert.KernelIdeal.main_arg19)) (m (c.tc.loc Cert.KernelIdeal.main_arg20)) (m (c.tc.loc Cert.KernelIdeal.main_arg21)) := by
  funext i
  obtain ⟨z, s, x, rfl⟩ : ∃ (z : Fin 1) (s : Fin 2048) (x : Fin 1024), i = ix3 z s x := ⟨i 0, i 1, i 2, eq_ix3 i⟩
  obtain rfl : z = 0 := Subsingleton.elim _ _
  rw [v73_15 m ρ c s x, r_v257]
  refine congrArg (fun y : EReal => y + _) (Finset.sum_congr rfl fun d _ => ?_)
  refine congrArg (fun y : EReal => y * _) ?_
  exact att_col (m (c.tc.loc Cert.KernelIdeal.main_arg0)) (m (c.tc.loc Cert.KernelIdeal.main_arg1)) (m (c.tc.loc Cert.KernelIdeal.main_arg2)) (m (c.tc.loc Cert.KernelIdeal.main_arg3)) (m (c.tc.loc Cert.KernelIdeal.main_arg4)) (m (c.tc.loc Cert.KernelIdeal.main_arg5)) (m (c.tc.loc Cert.KernelIdeal.main_arg6)) (m (c.tc.loc Cert.KernelIdeal.main_arg7)) (m (c.tc.loc Cert.KernelIdeal.main_arg8)) (m (c.tc.loc Cert.KernelIdeal.main_arg9)) (m (c.tc.loc Cert.KernelIdeal.main_arg10)) (m (c.tc.loc Cert.KernelIdeal.main_arg11)) (m (c.tc.loc Cert.KernelIdeal.main_arg12)) (m (c.tc.loc Cert.KernelIdeal.main_arg13)) (m (c.tc.loc Cert.KernelIdeal.main_arg14)) (m (c.tc.loc Cert.KernelIdeal.main_arg15)) (m (c.tc.loc Cert.KernelIdeal.main_arg16)) (m (c.tc.loc Cert.KernelIdeal.main_arg19)) (m (c.tc.loc Cert.KernelIdeal.main_arg20)) (m (c.tc.loc Cert.KernelIdeal.main_arg21)) h0 h1 h2 h3 h4 h5 h8 h9 h10 h11 h12 h15 h16 h19 h20 h21 s d _ _ _ _

end

end Cert.KernelIdeal.Val
-- ==== Proof.PreReal.lean ====
module

public import proofs.«01_k».proof.Pre_finite
public import proofs.«01_k».proof.Proof.Finite
public import Idealize.ShloMosaic.Lib.ReduceAll

/-! The precondition, read: every entry of every array it names is a real number. -/

@[expose] public section

set_option maxRecDepth 16384

noncomputable section

open Idealize.ShloMosaic Cert.Math

namespace Cert.KernelIdeal.Val

open Cert.Pre_finite

/-- Where all the magnitudes of an array compare below infinity, its entries are real. -/
theorem all_real {s u : Shape} [Subsingleton u.Idx] {axes : List (Fin s.rank)} (x c : FVec Ideal s .f32) (init : u.Idx → BitVec 1)
    (h : s.ReducesTo axes u) (hu : 0 < u.numel) (j : u.Idx) (hc : ∀ i, c i = Ideal.ofBits FTy.f32 2139095040#32)
    (e : Host.reduce IntOp.andi (cmpf .olt (Host.absf x) c) init h hu j = 1#1) (i : s.Idx) : IsR (x i) := by
  have hi := Host.reduce_andi_all _ _ h hu j e i
  have hb : BitVec.ofBool (decide (max (x i) (-(x i)) < c i)) = 1#1 := hi
  rw [hc, ofBits_pinf] at hb
  refine IsR.of_abs ?_
  by_contra hn
  rw [decide_eq_false (show ¬ (max (x i) (-(x i)) < ⊤) from hn)] at hb
  exact absurd hb (by decide)

/-- An index of a rank-zero array. -/
instance : Subsingleton Cert.Pre_finite.S_.Idx := ⟨fun a b => funext fun k => k.elim0⟩

variable [Cert.Pre_finite.Facts]

set_option maxHeartbeats 1000000 in
/-- The precondition makes the arrays it names real. -/
theorem pre_real (x0 : FVec Ideal S1x2048x1024 .f32)
    (x1 : FVec Ideal S1x2048 .f32)
    (x2 : FVec Ideal S1024x1024 .f32)
    (x3 : FVec Ideal S1024 .f32)
    (x4 : FVec Ideal S1024x1024 .f32)
    (x5 : FVec Ideal S1024 .f32)
    (x6 : FVec Ideal S1024x1024 .f32)
    (x7 : FVec Ideal S1024 .f32)
    (x8 : FVec Ideal S9x256 .f32)
    (x9 : FVec Ideal S1x256 .f32)
    (x10 : FVec Ideal S256 .f32)
    (x11 : FVec Ideal S1536x1024 .f32)
    (x12 : FVec Ideal S1024 .f32)
    (x13 : FVec Ideal S1024x128 .f32)
    (x14 : FVec Ideal S128 .f32)
    (x15 : FVec Ideal S1024x128 .f32)
    (x16 : FVec Ideal S128 .f32)
    (x17 : FVec Ideal S1024x1024 .f32)
    (x18 : FVec Ideal S1024 .f32)
    (x19 : FVec Ideal S16x8 .f32)
    (x20 : FVec Ideal S16x8 .f32)
    (x21 : FVec Ideal S16x8 .f32)
    (h : Cert.Pre_finite.fn (F := Ideal) x0 x1 x2 x3 x4 x5 x6 x7 x8 x9 x10 x11 x12 x13 x14 x15 x16 x17 x18 x19 x20 x21 = fun _ => 1#1) :
    (∀ i, IsR (x0 i)) ∧ (∀ i, IsR (x1 i)) ∧ (∀ i, IsR (x2 i)) ∧ (∀ i, IsR (x3 i)) ∧ (∀ i, IsR (x4 i)) ∧ (∀ i, IsR (x5 i)) ∧ (∀ i, IsR (x8 i)) ∧ (∀ i, IsR (x9 i)) ∧ (∀ i, IsR (x10 i)) ∧ (∀ i, IsR (x11 i)) ∧ (∀ i, IsR (x12 i)) ∧ (∀ i, IsR (x15 i)) ∧ (∀ i, IsR (x16 i)) ∧ (∀ i, IsR (x19 i)) ∧ (∀ i, IsR (x20 i)) ∧ (∀ i, IsR (x21 i)) := by
  have e := congrFun h ix0
  dsimp only [fn, fn_part1, fn_part2, fn_part3, fn_part4] at e
  obtain ⟨e, e21⟩ := IntOp.andi_eq_one.1 e
  obtain ⟨e, e20⟩ := IntOp.andi_eq_one.1 e
  obtain ⟨e, e19⟩ := IntOp.andi_eq_one.1 e
  obtain ⟨e, e16⟩ := IntOp.andi_eq_one.1 e
  obtain ⟨e, e15⟩ := IntOp.andi_eq_one.1 e
  obtain ⟨e, e12⟩ := IntOp.andi_eq_one.1 e
  obtain ⟨e, e11⟩ := IntOp.andi_eq_one.1 e
  obtain ⟨e, e10⟩ := IntOp.andi_eq_one.1 e
  obtain ⟨e, e9⟩ := IntOp.andi_eq_one.1 e
  obtain ⟨e, e8⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e, e1⟩ := IntOp.andi_eq_one.1 e
  refine ⟨all_real _ _ _ _ _ _ (fun _ => rfl) e, all_real _ _ _ _ _ _ (fun _ => rfl) e1, all_real _ _ _ _ _ _ (fun _ => rfl) e2, all_real _ _ _ _ _ _ (fun _ => rfl) e3, all_real _ _ _ _ _ _ (fun _ => rfl) e4, all_real _ _ _ _ _ _ (fun _ => rfl) e5, all_real _ _ _ _ _ _ (fun _ => rfl) e8, all_real _ _ _ _ _ _ (fun _ => rfl) e9, all_real _ _ _ _ _ _ (fun _ => rfl) e10, all_real _ _ _ _ _ _ (fun _ => rfl) e11, all_real _ _ _ _ _ _ (fun _ => rfl) e12, all_real _ _ _ _ _ _ (fun _ => rfl) e15, all_real _ _ _ _ _ _ (fun _ => rfl) e16, all_real _ _ _ _ _ _ (fun _ => rfl) e19, all_real _ _ _ _ _ _ (fun _ => rfl) e20, all_real _ _ _ _ _ _ (fun _ => rfl) e21⟩

end Cert.KernelIdeal.Val
-- ==== Proof.KRun.lean ====
module

public import proofs.«01_k».proof.Proof.Gen.KernelIdeal.Frame

/-! The kernel's run, with what every buffer outside the regions holds at its end. -/

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel terminates without a fault, and at its end every buffer outside the regions holds what the last boundary
between its segments says. -/
theorem run : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h hz => h)

end Cert.KernelIdeal.Val

end
-- ==== Proof.Final.lean ====
module

public import proofs.«01_k».proof.Defs
public import proofs.«01_k».proof.Proof.Comb
public import proofs.«01_k».proof.Proof.PreReal
public import proofs.«01_k».proof.Proof.KRun
public import proofs.«01_k».proof.Proof.Gen.KernelIdeal
public import proofs.«01_k».proof.Proof.Gen.ReferenceIdeal
public import proofs.«01_k».proof.Proof.Gen.Pre_finite
public import Idealize.ShloMosaic.Lib.Claim
public import Idealize.ShloMosaic.Lib.Quiescent

/-! The claims about the reference's run, and the claim that the kernel's result is the reference's. -/

@[expose] public section

set_option maxRecDepth 16384

noncomputable section

namespace Cert.Final

open Idealize.ShloMosaic Idealize.ShloMosaic.TcCoe Idealize.SL.Sem
open Idealize.ShloMosaic.StableHlo (launchContents launchContents_devRef)

section Reference

open Cert.ReferenceIdeal

/-- The reference terminates without a fault, its result the composed function of its arguments, its arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v257)
        = Read.val_main_v257 (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13))
          (m ((c.tc : Thread nD τ).loc main_arg14)) (m ((c.tc : Thread nD τ).loc main_arg15))
          (m ((c.tc : Thread nD τ).loc main_arg16)) (m ((c.tc : Thread nD τ).loc main_arg17))
          (m ((c.tc : Thread nD τ).loc main_arg18)) (m ((c.tc : Thread nD τ).loc main_arg19))
          (m ((c.tc : Thread nD τ).loc main_arg20)) (m ((c.tc : Thread nD τ).loc main_arg21))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run (defs (F := Ideal)) _ _).mono
    (fun r h c => ⟨(h c).1.trans ((Read.val_main_v257_eq (F := Ideal) (launchContents m c)).trans (by simp only [launchContents_devRef])),
      (h c).2⟩) (Value.run (F := Ideal) m ρ)

/-- The reference terminates, changes none of its arguments, and has no semaphore to leave. -/
theorem ref_frame : Cert.quiescent_ReferenceIdeal := by
  intro m ρ _
  exact (θ_run (defs (F := Ideal)) _ _).mono (fun r h => ⟨fun c => (h c).2, sem_eq_zero_of_no_sems (by decide) r.2⟩) (ref_run m ρ)

/-- The same, under the precondition. -/
theorem ref_frame_pre : Cert.quiescent_ReferenceIdeal_pre_finite := fun m ρ _ => ref_frame m ρ trivial

end Reference

/-- The kernel's result is the reference's, of equal arguments satisfying the precondition. -/
theorem equal : Cert.algebraic_KernelIdeal_ReferenceIdeal_pre_finite := by
  intro m ρ m' ρ' hpre hagree
  refine ⟨fun c => Cert.KernelIdeal.Gen.W15 m ρ c Cert.KernelIdeal.main_v73, ?_, ?_⟩
  · exact (θ_run (Cert.KernelIdeal.defs (F := Ideal)) _ _).mono (fun r h c =>
      ⟨h c _ (Cert.KernelIdeal.Gen.mem_uc Cert.KernelIdeal.main_v73 (by decide)),
       (h c _ (Cert.KernelIdeal.Gen.mem_uc Cert.KernelIdeal.main_arg0 (by decide))).trans (Cert.KernelIdeal.Gen.W15_main_arg0 m ρ c),
       (h c _ (Cert.KernelIdeal.Gen.mem_uc Cert.KernelIdeal.main_arg1 (by decide))).trans (Cert.KernelIdeal.Gen.W15_main_arg1 m ρ c),
       (h c _ (Cert.KernelIdeal.Gen.mem_uc Cert.KernelIdeal.main_arg2 (by decide))).trans (Cert.KernelIdeal.Gen.W15_main_arg2 m ρ c),
       (h c _ (Cert.KernelIdeal.Gen.mem_uc Cert.KernelIdeal.main_arg3 (by decide))).trans (Cert.KernelIdeal.Gen.W15_main_arg3 m ρ c),
       (h c _ (Cert.KernelIdeal.Gen.mem_uc Cert.KernelIdeal.main_arg4 (by decide))).trans (Cert.KernelIdeal.Gen.W15_main_arg4 m ρ c),
       (h c _ (Cert.KernelIdeal.Gen.mem_uc Cert.KernelIdeal.main_arg5 (by decide))).trans (Cert.KernelIdeal.Gen.W15_main_arg5 m ρ c),
       (h c _ (Cert.KernelIdeal.Gen.mem_uc Cert.KernelIdeal.main_arg6 (by decide))).trans (Cert.KernelIdeal.Gen.W15_main_arg6 m ρ c),
       (h c _ (Cert.KernelIdeal.Gen.mem_uc Cert.KernelIdeal.main_arg7 (by decide))).trans (Cert.KernelIdeal.Gen.W15_main_arg7 m ρ c),
       (h c _ (Cert.KernelIdeal.Gen.mem_uc Cert.KernelIdeal.main_arg8 (by decide))).trans (Cert.KernelIdeal.Gen.W15_main_arg8 m ρ c),
       (h c _ (Cert.KernelIdeal.Gen.mem_uc Cert.KernelIdeal.main_arg9 (by decide))).trans (Cert.KernelIdeal.Gen.W15_main_arg9 m ρ c),
       (h c _ (Cert.KernelIdeal.Gen.mem_uc Cert.KernelIdeal.main_arg10 (by decide))).trans (Cert.KernelIdeal.Gen.W15_main_arg10 m ρ c),
       (h c _ (Cert.KernelIdeal.Gen.mem_uc Cert.KernelIdeal.main_arg11 (by decide))).trans (Cert.KernelIdeal.Gen.W15_main_arg11 m ρ c),
       (h c _ (Cert.KernelIdeal.Gen.mem_uc Cert.KernelIdeal.main_arg12 (by decide))).trans (Cert.KernelIdeal.Gen.W15_main_arg12 m ρ c),
       (h c _ (Cert.KernelIdeal.Gen.mem_uc Cert.KernelIdeal.main_arg13 (by decide))).trans (Cert.KernelIdeal.Gen.W15_main_arg13 m ρ c),
       (h c _ (Cert.KernelIdeal.Gen.mem_uc Cert.KernelIdeal.main_arg14 (by decide))).trans (Cert.KernelIdeal.Gen.W15_main_arg14 m ρ c),
       (h c _ (Cert.KernelIdeal.Gen.mem_uc Cert.KernelIdeal.main_arg15 (by decide))).trans (Cert.KernelIdeal.Gen.W15_main_arg15 m ρ c),
       (h c _ (Cert.KernelIdeal.Gen.mem_uc Cert.KernelIdeal.main_arg16 (by decide))).trans (Cert.KernelIdeal.Gen.W15_main_arg16 m ρ c),
       (h c _ (Cert.KernelIdeal.Gen.mem_uc Cert.KernelIdeal.main_arg17 (by decide))).trans (Cert.KernelIdeal.Gen.W15_main_arg17 m ρ c),
       (h c _ (Cert.KernelIdeal.Gen.mem_uc Cert.KernelIdeal.main_arg18 (by decide))).trans (Cert.KernelIdeal.Gen.W15_main_arg18 m ρ c),
       (h c _ (Cert.KernelIdeal.Gen.mem_uc Cert.KernelIdeal.main_arg19 (by decide))).trans (Cert.KernelIdeal.Gen.W15_main_arg19 m ρ c),
       (h c _ (Cert.KernelIdeal.Gen.mem_uc Cert.KernelIdeal.main_arg20 (by decide))).trans (Cert.KernelIdeal.Gen.W15_main_arg20 m ρ c),
       (h c _ (Cert.KernelIdeal.Gen.mem_uc Cert.KernelIdeal.main_arg21 (by decide))).trans (Cert.KernelIdeal.Gen.W15_main_arg21 m ρ c)⟩) (Cert.KernelIdeal.Val.run m ρ)
  · refine (θ_run (Cert.ReferenceIdeal.defs (F := Ideal)) _ _).mono (fun r h c => ⟨(h c).1.trans ?_, (h c).2⟩) (ref_run m' ρ')
    obtain ⟨a0, a1, a2, a3, a4, a5, a6, a7, a8, a9, a10, a11, a12, a13, a14, a15, a16, a17, a18, a19, a20, a21⟩ := hagree c
    obtain ⟨h0, h1, h2, h3, h4, h5, h8, h9, h10, h11, h12, h15, h16, h19, h20, h21⟩ := Cert.KernelIdeal.Val.pre_real _ _ _ _ _ _ _ _ _ _ _ _ _ _ _ _ _ _ _ _ _ _ (hpre c)
    have e := Cert.KernelIdeal.Val.result_eq m ρ c h0 h1 h2 h3 h4 h5 h8 h9 h10 h11 h12 h15 h16 h19 h20 h21
    refine Eq.trans ?_ e.symm
    rw [a0, a1, a2, a3, a4, a5, a6, a7, a8, a9, a10, a11, a12, a13, a14, a15, a16, a17, a18, a19, a20, a21]

end Cert.Final

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.Gen.Pre_finite
public import proofs.«01_k».proof.Proof.Final
public import Idealize.ShloMosaic.Adequacy
public import Idealize.ShloMosaic.Init

@[expose] public section

noncomputable section

namespace Cert.Proof

open Idealize.ShloMosaic Idealize.SL.Sem Cert.Kernel

/-- The certificate's claim. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ, fun m ρ _ => Cert.KernelIdeal.Gen.frame m ρ,
    Cert.Final.ref_frame, Cert.Final.ref_frame_pre, trivial, Cert.Final.equal⟩

end Cert.Proof

end
